-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_into_the_router [hPre_finite_into_the_router : Cert.Pre_finite_into_the_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_into_the_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_into_the_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_into_the_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_into_the_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_into_the_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_into_the_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_into_the_router [hPre_finite_into_the_router : Cert.Pre_finite_into_the_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_into_the_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_into_the_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_into_the_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_into_the_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_into_the_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_into_the_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_into_the_router [hKernelIdeal : Cert.KernelIdeal.Facts] [hPre_finite_into_the_router : Cert.Pre_finite_into_the_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_into_the_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_into_the_router [hReferenceIdeal : Cert.ReferenceIdeal.Facts] [hPre_finite_into_the_router : Cert.Pre_finite_into_the_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_into_the_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "rsqrt2" .f32 0x3F3504F3#32 ((Real.sqrt (2⁻¹) : ℝ) : EReal)

def algebraic_KernelIdeal_ReferenceIdeal_pre_finite_into_the_router [hKernelIdeal : Cert.KernelIdeal.Facts] [hReferenceIdeal : Cert.ReferenceIdeal.Facts] [hPre_finite_into_the_router : Cert.Pre_finite_into_the_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_into_the_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v681) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_into_the_router : Cert.Pre_finite_into_the_router.Facts),
    quiescent_Kernel (hKernel := hKernel)
    ∧ quiescent_KernelIdeal (hKernelIdeal := hKernelIdeal)
    ∧ quiescent_KernelIdeal_pre_finite_into_the_router (hKernelIdeal := hKernelIdeal) (hPre_finite_into_the_router := hPre_finite_into_the_router)
    ∧ quiescent_ReferenceIdeal (hReferenceIdeal := hReferenceIdeal)
    ∧ quiescent_ReferenceIdeal_pre_finite_into_the_router (hReferenceIdeal := hReferenceIdeal) (hPre_finite_into_the_router := hPre_finite_into_the_router)
    ∧ preserves_Kernel_KernelIdeal
    ∧ algebraic_KernelIdeal_ReferenceIdeal_pre_finite_into_the_router (hKernelIdeal := hKernelIdeal) (hReferenceIdeal := hReferenceIdeal) (hPre_finite_into_the_router := hPre_finite_into_the_router)
-- ==== Pre_finite_into_the_router.lean ====
abbrev S1x96x224x224 : Shape := ⟨4, ![1, 96, 224, 224]⟩
abbrev S96x1x7x7 : Shape := ⟨4, ![96, 1, 7, 7]⟩
abbrev S96 : Shape := ⟨1, ![96]⟩
abbrev S8x96 : Shape := ⟨2, ![8, 96]⟩
abbrev S8x96x96 : Shape := ⟨3, ![8, 96, 96]⟩
abbrev S96x1x1 : Shape := ⟨3, ![96, 1, 1]⟩
abbrev S_ : Shape := ⟨0, ![]⟩

class Facts : Prop where
  bcast_S_S1x96x224x224 : S_.BroadcastsInDim S1x96x224x224 (![] : Fin 0 → Fin S1x96x224x224.rank)
  bcast_S_S96x1x7x7 : S_.BroadcastsInDim S96x1x7x7 (![] : Fin 0 → Fin S96x1x7x7.rank)
  bcast_S_S96 : S_.BroadcastsInDim S96 (![] : Fin 0 → Fin S96.rank)
  bcast_S_S8x96 : S_.BroadcastsInDim S8x96 (![] : Fin 0 → Fin S8x96.rank)

variable [Facts]

def fn {F : FTy → Type} [FloatOps F] (main_arg0 : FVec F S1x96x224x224 .f32) (main_arg1 : FVec F S96x1x7x7 .f32) (main_arg2 : FVec F S96 .f32) (main_arg3 : FVec F S96 .f32) (main_arg4 : FVec F S96 .f32) (main_arg5 : FVec F S8x96 .f32) (main_arg6 : FVec F S8x96x96 .f32) (main_arg7 : FVec F S8x96 .f32) (main_arg8 : FVec F S8x96x96 .f32) (main_arg9 : FVec F S8x96 .f32) (main_arg10 : FVec F S96x1x1 .f32) : IVec S1x96x224x224 1 × IVec S96x1x7x7 1 × IVec S96 1 × IVec S96 1 × IVec S96 1 × IVec S8x96 1 :=
  let main_v0 : FVec F S1x96x224x224 .f32 := Host.absf main_arg0
  let main_cst : FVec F S_ .f32 := constant S_ .f32 0x7F800000#32
  let main_v1 : FVec F S1x96x224x224 .f32 := broadcastInDim S1x96x224x224 ![] bcast_S_S1x96x224x224 main_cst
  let main_v2 : IVec S1x96x224x224 1 := cmpf .olt main_v0 main_v1
  let main_v3 : FVec F S96x1x7x7 .f32 := Host.absf main_arg1
  let main_cst_0 : FVec F S_ .f32 := constant S_ .f32 0x7F800000#32
  let main_v4 : FVec F S96x1x7x7 .f32 := broadcastInDim S96x1x7x7 ![] bcast_S_S96x1x7x7 main_cst_0
  let main_v5 : IVec S96x1x7x7 1 := cmpf .olt main_v3 main_v4
  let main_v6 : FVec F S96 .f32 := Host.absf main_arg2
  let main_cst_1 : FVec F S_ .f32 := constant S_ .f32 0x7F800000#32
  let main_v7 : FVec F S96 .f32 := broadcastInDim S96 ![] bcast_S_S96 main_cst_1
  let main_v8 : IVec S96 1 := cmpf .olt main_v6 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_v12 : FVec F S96 .f32 := Host.absf main_arg4
  let main_cst_3 : FVec F S_ .f32 := constant S_ .f32 0x7F800000#32
  let main_v13 : FVec F S96 .f32 := broadcastInDim S96 ![] bcast_S_S96 main_cst_3
  let main_v14 : IVec S96 1 := cmpf .olt main_v12 main_v13
  let main_v15 : FVec F S8x96 .f32 := Host.absf main_arg5
  let main_cst_4 : FVec F S_ .f32 := constant S_ .f32 0x7F800000#32
  let main_v16 : FVec F S8x96 .f32 := broadcastInDim S8x96 ![] bcast_S_S8x96 main_cst_4
  let main_v17 : IVec S8x96 1 := cmpf .olt main_v15 main_v16
  (main_v2, main_v5, main_v8, main_v11, main_v14, main_v17)
-- ==== Kernel.lean ====
abbrev S1x96x224x224 : Shape := ⟨4, ![1, 96, 224, 224]⟩
abbrev S96x1x7x7 : Shape := ⟨4, ![96, 1, 7, 7]⟩
abbrev S96 : Shape := ⟨1, ![96]⟩
abbrev S8x96 : Shape := ⟨2, ![8, 96]⟩
abbrev S8x96x96 : Shape := ⟨3, ![8, 96, 96]⟩
abbrev S96x1x1 : Shape := ⟨3, ![96, 1, 1]⟩
abbrev S96x224x224 : Shape := ⟨3, ![96, 224, 224]⟩
abbrev S_ : Shape := ⟨0, ![]⟩
abbrev S96x232x256 : Shape := ⟨3, ![96, 232, 256]⟩
abbrev S96x59392 : Shape := ⟨2, ![96, 59392]⟩
abbrev S96x50176 : Shape := ⟨2, ![96, 50176]⟩
abbrev S96x7x7 : Shape := ⟨3, ![96, 7, 7]⟩
abbrev S96x49 : Shape := ⟨2, ![96, 49]⟩
abbrev S96x56 : Shape := ⟨2, ![96, 56]⟩
abbrev S96x1 : Shape := ⟨2, ![96, 1]⟩
abbrev S96x8 : Shape := ⟨2, ![96, 8]⟩
abbrev S96x8x96 : Shape := ⟨3, ![96, 8, 96]⟩
abbrev S96x768 : Shape := ⟨2, ![96, 768]⟩
abbrev S96x784 : Shape := ⟨2, ![96, 784]⟩
abbrev S96x2048 : Shape := ⟨2, ![96, 2048]⟩
abbrev S96x1792 : Shape := ⟨2, ![96, 1792]⟩
abbrev S8x2048 : Shape := ⟨2, ![8, 2048]⟩
abbrev S2048 : Shape := ⟨1, ![2048]⟩
abbrev S1x2048 : Shape := ⟨2, ![1, 2048]⟩
abbrev S784x2048 : Shape := ⟨2, ![784, 2048]⟩
abbrev S96x224 : Shape := ⟨2, ![96, 224]⟩
abbrev S96x771 : Shape := ⟨2, ![96, 771]⟩
abbrev S96x765 : Shape := ⟨2, ![96, 765]⟩
abbrev S96x3584 : Shape := ⟨2, ![96, 3584]⟩
abbrev S96x770 : Shape := ⟨2, ![96, 770]⟩
abbrev S96x766 : Shape := ⟨2, ![96, 766]⟩
abbrev S96x769 : Shape := ⟨2, ![96, 769]⟩
abbrev S96x767 : Shape := ⟨2, ![96, 767]⟩

abbrev nBuf : Space → Nat
  | .hbm => 42
  | .vmem => 20
  | .smem => 0
  | _ => 0

abbrev bufTy : (tb : Table) → Fin (tcTables nBuf tb) → BufTy
  | .hbm, ⟨0, _⟩ => ⟨S1x96x224x224, .f32⟩
  | .hbm, ⟨1, _⟩ => ⟨S96x1x7x7, .f32⟩
  | .hbm, ⟨2, _⟩ => ⟨S96, .f32⟩
  | .hbm, ⟨3, _⟩ => ⟨S96, .f32⟩
  | .hbm, ⟨4, _⟩ => ⟨S96, .f32⟩
  | .hbm, ⟨5, _⟩ => ⟨S8x96, .f32⟩
  | .hbm, ⟨6, _⟩ => ⟨S8x96x96, .f32⟩
  | .hbm, ⟨7, _⟩ => ⟨S8x96, .f32⟩
  | .hbm, ⟨8, _⟩ => ⟨S8x96x96, .f32⟩
  | .hbm, ⟨9, _⟩ => ⟨S8x96, .f32⟩
  | .hbm, ⟨10, _⟩ => ⟨S96x1x1, .f32⟩
  | .hbm, ⟨11, _⟩ => ⟨S96x224x224, .f32⟩
  | .hbm, ⟨12, _⟩ => ⟨S_, .i32⟩
  | .hbm, ⟨13, _⟩ => ⟨S_, .f32⟩
  | .hbm, ⟨14, _⟩ => ⟨S96x232x256, .f32⟩
  | .hbm, ⟨15, _⟩ => ⟨S96x59392, .f32⟩
  | .hbm, ⟨16, _⟩ => ⟨S96x59392, .bf16⟩
  | .hbm, ⟨17, _⟩ => ⟨S96x50176, .f32⟩
  | .hbm, ⟨18, _⟩ => ⟨S96x7x7, .f32⟩
  | .hbm, ⟨19, _⟩ => ⟨S96x49, .f32⟩
  | .hbm, ⟨20, _⟩ => ⟨S_, .i32⟩
  | .hbm, ⟨21, _⟩ => ⟨S_, .f32⟩
  | .hbm, ⟨22, _⟩ => ⟨S96x56, .f32⟩
  | .hbm, ⟨23, _⟩ => ⟨S96x56, .bf16⟩
  | .hbm, ⟨24, _⟩ => ⟨S96x1, .f32⟩
  | .hbm, ⟨25, _⟩ => ⟨S96x1, .f32⟩
  | .hbm, ⟨26, _⟩ => ⟨S96x1, .f32⟩
  | .hbm, ⟨27, _⟩ => ⟨S96x1, .f32⟩
  | .hbm, ⟨28, _⟩ => ⟨S_, .f32⟩
  | .hbm, ⟨29, _⟩ => ⟨S96x8, .f32⟩
  | .hbm, ⟨30, _⟩ => ⟨S96x8x96, .f32⟩
  | .hbm, ⟨31, _⟩ => ⟨S96x768, .f32⟩
  | .hbm, ⟨32, _⟩ => ⟨S96x8, .f32⟩
  | .hbm, ⟨33, _⟩ => ⟨S96x784, .f32⟩
  | .hbm, ⟨34, _⟩ => ⟨S96x784, .bf16⟩
  | .hbm, ⟨35, _⟩ => ⟨S96x8x96, .f32⟩
  | .hbm, ⟨36, _⟩ => ⟨S96x768, .f32⟩
  | .hbm, ⟨37, _⟩ => ⟨S96x8, .f32⟩
  | .hbm, ⟨38, _⟩ => ⟨S96x784, .f32⟩
  | .hbm, ⟨39, _⟩ => ⟨S96x784, .bf16⟩
  | .hbm, ⟨40, _⟩ => ⟨S96x50176, .f32⟩
  | .hbm, ⟨41, _⟩ => ⟨S1x96x224x224, .f32⟩
  | .local _ .vmem, ⟨0, _⟩ => ⟨S96x2048, .bf16⟩
  | .local _ .vmem, ⟨1, _⟩ => ⟨S96x2048, .bf16⟩
  | .local _ .vmem, ⟨2, _⟩ => ⟨S96x2048, .bf16⟩
  | .local _ .vmem, ⟨3, _⟩ => ⟨S96x2048, .bf16⟩
  | .local _ .vmem, ⟨4, _⟩ => ⟨S96x2048, .bf16⟩
  | .local _ .vmem, ⟨5, _⟩ => ⟨S96x2048, .bf16⟩
  | .local _ .vmem, ⟨6, _⟩ => ⟨S96x1792, .f32⟩
  | .local _ .vmem, ⟨7, _⟩ => ⟨S96x1792, .f32⟩
  | .local _ .vmem, ⟨8, _⟩ => ⟨S96x56, .bf16⟩
  | .local _ .vmem, ⟨9, _⟩ => ⟨S96x1, .f32⟩
  | .local _ .vmem, ⟨10, _⟩ => ⟨S96x1, .f32⟩
  | .local _ .vmem, ⟨11, _⟩ => ⟨S96x1, .f32⟩
  | .local _ .vmem, ⟨12, _⟩ => ⟨S8x96, .f32⟩
  | .local _ .vmem, ⟨13, _⟩ => ⟨S96x784, .bf16⟩
  | .local _ .vmem, ⟨14, _⟩ => ⟨S96x784, .bf16⟩
  | .local _ .vmem, ⟨15, _⟩ => ⟨S96x1, .f32⟩
  | .local _ .vmem, ⟨16, _⟩ => ⟨S96x1792, .f32⟩
  | .local _ .vmem, ⟨17, _⟩ => ⟨S96x1792, .f32⟩
  | .local _ .vmem, ⟨18, _⟩ => ⟨S96x2048, .f32⟩
  | .local _ .vmem, ⟨19, _⟩ => ⟨S96x2048, .f32⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c28_i32 : BitVec 32 := 28#32
  let v1 : BitVec 32 := Scalar.maxsi c0_i32 v0
  let v2 : BitVec 32 := Scalar.minsi c28_i32 v1
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let c28_i32 : BitVec 32 := 28#32
  let v0 : BitVec 32 := Scalar.minsi arg0 c28_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c28_i32 : BitVec 32 := 28#32
  let v1 : BitVec 32 := Scalar.minsi v0 c28_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c27_i32 : BitVec 32 := 27#32
  let v1 : BitVec 32 := Scalar.maxsi c0_i32 v0
  let v2 : BitVec 32 := Scalar.minsi c27_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c27_i32 : BitVec 32 := 27#32
  let v1 : BitVec 32 := Scalar.maxsi c0_i32 v0
  let v2 : BitVec 32 := Scalar.minsi c27_i32 v1
  let c0_i32_0 : BitVec 32 := 0#32
  let c0_i32_1 : BitVec 32 := 0#32
  ![c0_i32_0.toNat, v2.toNat]

abbrev stage0_0 : Fin 2 → Memref sig .tc .vmem S96x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x56 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x784 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x784 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S96x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S96x1792 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "rsqrt2" => some ((Real.sqrt (2⁻¹) : ℝ) : EReal)
  | _ => none
-- ==== ReferenceIdeal.lean ====
abbrev S1x96x224x224 : Shape := ⟨4, ![1, 96, 224, 224]⟩
abbrev S96x1x7x7 : Shape := ⟨4, ![96, 1, 7, 7]⟩
abbrev S96 : Shape := ⟨1, ![96]⟩
abbrev S8x96 : Shape := ⟨2, ![8, 96]⟩
abbrev S8x96x96 : Shape := ⟨3, ![8, 96, 96]⟩
abbrev S96x1x1 : Shape := ⟨3, ![96, 1, 1]⟩
abbrev S_ : Shape := ⟨0, ![]⟩
abbrev S1x96x230x230 : Shape := ⟨4, ![1, 96, 230, 230]⟩
abbrev S96x1x1x1 : Shape := ⟨4, ![96, 1, 1, 1]⟩
abbrev S1x96x1x1 : Shape := ⟨4, ![1, 96, 1, 1]⟩
abbrev S1x224x224x96 : Shape := ⟨4, ![1, 224, 224, 96]⟩
abbrev S1x224x224 : Shape := ⟨3, ![1, 224, 224]⟩
abbrev S1x224x224x1 : Shape := ⟨4, ![1, 224, 224, 1]⟩
abbrev S1x1x1x96 : Shape := ⟨4, ![1, 1, 1, 96]⟩
abbrev S50176x96 : Shape := ⟨2, ![50176, 96]⟩
abbrev S96x8 : Shape := ⟨2, ![96, 8]⟩
abbrev S50176x8 : Shape := ⟨2, ![50176, 8]⟩
abbrev S50176x1 : Shape := ⟨2, ![50176, 1]⟩
abbrev S50176 : Shape := ⟨1, ![50176]⟩
abbrev S1x96x96 : Shape := ⟨3, ![1, 96, 96]⟩
abbrev S96x96 : Shape := ⟨2, ![96, 96]⟩
abbrev S1x96 : Shape := ⟨2, ![1, 96]⟩

abbrev nBuf : Space → Nat
  | .hbm => 768
  | .vmem => 0
  | .smem => 0
  | _ => 0

abbrev hbmTy0_0 (i : Nat) : BufTy := match i % 128 with
  | 0 => ⟨S1x96x224x224, .f32⟩
  | 1 => ⟨S96x1x7x7, .f32⟩
  | 2 => ⟨S96, .f32⟩
  | 3 => ⟨S96, .f32⟩
  | 4 => ⟨S96, .f32⟩
  | 5 => ⟨S8x96, .f32⟩
  | 6 => ⟨S8x96x96, .f32⟩
  | 7 => ⟨S8x96, .f32⟩
  | 8 => ⟨S8x96x96, .f32⟩
  | 9 => ⟨S8x96, .f32⟩
  | 10 => ⟨S96x1x1, .f32⟩
  | 11 => ⟨S_, .i32⟩
  | 12 => ⟨S_, .f32⟩
  | 13 => ⟨S1x96x230x230, .f32⟩
  | 14 => ⟨S_, .f32⟩
  | 15 => ⟨S1x96x224x224, .f32⟩
  | 16 => ⟨S1x96x224x224, .f32⟩
  | 17 => ⟨S96x1x1x1, .f32⟩
  | 18 => ⟨S96, .f32⟩
  | 19 => ⟨S1x96x1x1, .f32⟩
  | 20 => ⟨S1x96x224x224, .f32⟩
  | 21 => ⟨S1x96x224x224, .f32⟩
  | 22 => ⟨S1x96x224x224, .f32⟩
  | 23 => ⟨S1x96x224x224, .f32⟩
  | 24 => ⟨S96x1x1x1, .f32⟩
  | 25 => ⟨S96, .f32⟩
  | 26 => ⟨S1x96x1x1, .f32⟩
  | 27 => ⟨S1x96x224x224, .f32⟩
  | 28 => ⟨S1x96x224x224, .f32⟩
  | 29 => ⟨S1x96x224x224, .f32⟩
  | 30 => ⟨S1x96x224x224, .f32⟩
  | 31 => ⟨S96x1x1x1, .f32⟩
  | 32 => ⟨S96, .f32⟩
  | 33 => ⟨S1x96x1x1, .f32⟩
  | 34 => ⟨S1x96x224x224, .f32⟩
  | 35 => ⟨S1x96x224x224, .f32⟩
  | 36 => ⟨S1x96x224x224, .f32⟩
  | 37 => ⟨S1x96x224x224, .f32⟩
  | 38 => ⟨S96x1x1x1, .f32⟩
  | 39 => ⟨S96, .f32⟩
  | 40 => ⟨S1x96x1x1, .f32⟩
  | 41 => ⟨S1x96x224x224, .f32⟩
  | 42 => ⟨S1x96x224x224, .f32⟩
  | 43 => ⟨S1x96x224x224, .f32⟩
  | 44 => ⟨S1x96x224x224, .f32⟩
  | 45 => ⟨S96x1x1x1, .f32⟩
  | 46 => ⟨S96, .f32⟩
  | 47 => ⟨S1x96x1x1, .f32⟩
  | 48 => ⟨S1x96x224x224, .f32⟩
  | 49 => ⟨S1x96x224x224, .f32⟩
  | 50 => ⟨S1x96x224x224, .f32⟩
  | 51 => ⟨S1x96x224x224, .f32⟩
  | 52 => ⟨S96x1x1x1, .f32⟩
  | 53 => ⟨S96, .f32⟩
  | 54 => ⟨S1x96x1x1, .f32⟩
  | 55 => ⟨S1x96x224x224, .f32⟩
  | 56 => ⟨S1x96x224x224, .f32⟩
  | 57 => ⟨S1x96x224x224, .f32⟩
  | 58 => ⟨S1x96x224x224, .f32⟩
  | 59 => ⟨S96x1x1x1, .f32⟩
  | 60 => ⟨S96, .f32⟩
  | 61 => ⟨S1x96x1x1, .f32⟩
  | 62 => ⟨S1x96x224x224, .f32⟩
  | 63 => ⟨S1x96x224x224, .f32⟩
  | 64 => ⟨S1x96x224x224, .f32⟩
  | 65 => ⟨S1x96x224x224, .f32⟩
  | 66 => ⟨S96x1x1x1, .f32⟩
  | 67 => ⟨S96, .f32⟩
  | 68 => ⟨S1x96x1x1, .f32⟩
  | 69 => ⟨S1x96x224x224, .f32⟩
  | 70 => ⟨S1x96x224x224, .f32⟩
  | 71 => ⟨S1x96x224x224, .f32⟩
  | 72 => ⟨S1x96x224x224, .f32⟩
  | 73 => ⟨S96x1x1x1, .f32⟩
  | 74 => ⟨S96, .f32⟩
  | 75 => ⟨S1x96x1x1, .f32⟩
  | 76 => ⟨S1x96x224x224, .f32⟩
  | 77 => ⟨S1x96x224x224, .f32⟩
  | 78 => ⟨S1x96x224x224, .f32⟩
  | 79 => ⟨S1x96x224x224, .f32⟩
  | 80 => ⟨S96x1x1x1, .f32⟩
  | 81 => ⟨S96, .f32⟩
  | 82 => ⟨S1x96x1x1, .f32⟩
  | 83 => ⟨S1x96x224x224, .f32⟩
  | 84 => ⟨S1x96x224x224, .f32⟩
  | 85 => ⟨S1x96x224x224, .f32⟩
  | 86 => ⟨S1x96x224x224, .f32⟩
  | 87 => ⟨S96x1x1x1, .f32⟩
  | 88 => ⟨S96, .f32⟩
  | 89 => ⟨S1x96x1x1, .f32⟩
  | 90 => ⟨S1x96x224x224, .f32⟩
  | 91 => ⟨S1x96x224x224, .f32⟩
  | 92 => ⟨S1x96x224x224, .f32⟩
  | 93 => ⟨S1x96x224x224, .f32⟩
  | 94 => ⟨S96x1x1x1, .f32⟩
  | 95 => ⟨S96, .f32⟩
  | 96 => ⟨S1x96x1x1, .f32⟩
  | 97 => ⟨S1x96x224x224, .f32⟩
  | 98 => ⟨S1x96x224x224, .f32⟩
  | 99 => ⟨S1x96x224x224, .f32⟩
  | 100 => ⟨S1x96x224x224, .f32⟩
  | 101 => ⟨S96x1x1x1, .f32⟩
  | 102 => ⟨S96, .f32⟩
  | 103 => ⟨S1x96x1x1, .f32⟩
  | 104 => ⟨S1x96x224x224, .f32⟩
  | 105 => ⟨S1x96x224x224, .f32⟩
  | 106 => ⟨S1x96x224x224, .f32⟩
  | 107 => ⟨S1x96x224x224, .f32⟩
  | 108 => ⟨S96x1x1x1, .f32⟩
  | 109 => ⟨S96, .f32⟩
  | 110 => ⟨S1x96x1x1, .f32⟩
  | 111 => ⟨S1x96x224x224, .f32⟩
  | 112 => ⟨S1x96x224x224, .f32⟩
  | 113 => ⟨S1x96x224x224, .f32⟩
  | 114 => ⟨S1x96x224x224, .f32⟩
  | 115 => ⟨S96x1x1x1, .f32⟩
  | 116 => ⟨S96, .f32⟩
  | 117 => ⟨S1x96x1x1, .f32⟩
  | 118 => ⟨S1x96x224x224, .f32⟩
  | 119 => ⟨S1x96x224x224, .f32⟩
  | 120 => ⟨S1x96x224x224, .f32⟩
  | 121 => ⟨S1x96x224x224, .f32⟩
  | 122 => ⟨S96x1x1x1, .f32⟩
  | 123 => ⟨S96, .f32⟩
  | 124 => ⟨S1x96x1x1, .f32⟩
  | 125 => ⟨S1x96x224x224, .f32⟩
  | 126 => ⟨S1x96x224x224, .f32⟩
  | 127 => ⟨S1x96x224x224, .f32⟩
  | _ => ⟨S1x96x224x224, .f32⟩

abbrev hbmTy0_1 (i : Nat) : BufTy := match i % 128 with
  | 0 => ⟨S1x96x224x224, .f32⟩
  | 1 => ⟨S96x1x1x1, .f32⟩
  | 2 => ⟨S96, .f32⟩
  | 3 => ⟨S1x96x1x1, .f32⟩
  | 4 => ⟨S1x96x224x224, .f32⟩
  | 5 => ⟨S1x96x224x224, .f32⟩
  | 6 => ⟨S1x96x224x224, .f32⟩
  | 7 => ⟨S1x96x224x224, .f32⟩
  | 8 => ⟨S96x1x1x1, .f32⟩
  | 9 => ⟨S96, .f32⟩
  | 10 => ⟨S1x96x1x1, .f32⟩
  | 11 => ⟨S1x96x224x224, .f32⟩
  | 12 => ⟨S1x96x224x224, .f32⟩
  | 13 => ⟨S1x96x224x224, .f32⟩
  | 14 => ⟨S1x96x224x224, .f32⟩
  | 15 => ⟨S96x1x1x1, .f32⟩
  | 16 => ⟨S96, .f32⟩
  | 17 => ⟨S1x96x1x1, .f32⟩
  | 18 => ⟨S1x96x224x224, .f32⟩
  | 19 => ⟨S1x96x224x224, .f32⟩
  | 20 => ⟨S1x96x224x224, .f32⟩
  | 21 => ⟨S1x96x224x224, .f32⟩
  | 22 => ⟨S96x1x1x1, .f32⟩
  | 23 => ⟨S96, .f32⟩
  | 24 => ⟨S1x96x1x1, .f32⟩
  | 25 => ⟨S1x96x224x224, .f32⟩
  | 26 => ⟨S1x96x224x224, .f32⟩
  | 27 => ⟨S1x96x224x224, .f32⟩
  | 28 => ⟨S1x96x224x224, .f32⟩
  | 29 => ⟨S96x1x1x1, .f32⟩
  | 30 => ⟨S96, .f32⟩
  | 31 => ⟨S1x96x1x1, .f32⟩
  | 32 => ⟨S1x96x224x224, .f32⟩
  | 33 => ⟨S1x96x224x224, .f32⟩
  | 34 => ⟨S1x96x224x224, .f32⟩
  | 35 => ⟨S1x96x224x224, .f32⟩
  | 36 => ⟨S96x1x1x1, .f32⟩
  | 37 => ⟨S96, .f32⟩
  | 38 => ⟨S1x96x1x1, .f32⟩
  | 39 => ⟨S1x96x224x224, .f32⟩
  | 40 => ⟨S1x96x224x224, .f32⟩
  | 41 => ⟨S1x96x224x224, .f32⟩
  | 42 => ⟨S1x96x224x224, .f32⟩
  | 43 => ⟨S96x1x1x1, .f32⟩
  | 44 => ⟨S96, .f32⟩
  | 45 => ⟨S1x96x1x1, .f32⟩
  | 46 => ⟨S1x96x224x224, .f32⟩
  | 47 => ⟨S1x96x224x224, .f32⟩
  | 48 => ⟨S1x96x224x224, .f32⟩
  | 49 => ⟨S1x96x224x224, .f32⟩
  | 50 => ⟨S96x1x1x1, .f32⟩
  | 51 => ⟨S96, .f32⟩
  | 52 => ⟨S1x96x1x1, .f32⟩
  | 53 => ⟨S1x96x224x224, .f32⟩
  | 54 => ⟨S1x96x224x224, .f32⟩
  | 55 => ⟨S1x96x224x224, .f32⟩
  | 56 => ⟨S1x96x224x224, .f32⟩
  | 57 => ⟨S96x1x1x1, .f32⟩
  | 58 => ⟨S96, .f32⟩
  | 59 => ⟨S1x96x1x1, .f32⟩
  | 60 => ⟨S1x96x224x224, .f32⟩
  | 61 => ⟨S1x96x224x224, .f32⟩
  | 62 => ⟨S1x96x224x224, .f32⟩
  | 63 => ⟨S1x96x224x224, .f32⟩
  | 64 => ⟨S96x1x1x1, .f32⟩
  | 65 => ⟨S96, .f32⟩
  | 66 => ⟨S1x96x1x1, .f32⟩
  | 67 => ⟨S1x96x224x224, .f32⟩
  | 68 => ⟨S1x96x224x224, .f32⟩
  | 69 => ⟨S1x96x224x224, .f32⟩
  | 70 => ⟨S1x96x224x224, .f32⟩
  | 71 => ⟨S96x1x1x1, .f32⟩
  | 72 => ⟨S96, .f32⟩
  | 73 => ⟨S1x96x1x1, .f32⟩
  | 74 => ⟨S1x96x224x224, .f32⟩
  | 75 => ⟨S1x96x224x224, .f32⟩
  | 76 => ⟨S1x96x224x224, .f32⟩
  | 77 => ⟨S1x96x224x224, .f32⟩
  | 78 => ⟨S96x1x1x1, .f32⟩
  | 79 => ⟨S96, .f32⟩
  | 80 => ⟨S1x96x1x1, .f32⟩
  | 81 => ⟨S1x96x224x224, .f32⟩
  | 82 => ⟨S1x96x224x224, .f32⟩
  | 83 => ⟨S1x96x224x224, .f32⟩
  | 84 => ⟨S1x96x224x224, .f32⟩
  | 85 => ⟨S96x1x1x1, .f32⟩
  | 86 => ⟨S96, .f32⟩
  | 87 => ⟨S1x96x1x1, .f32⟩
  | 88 => ⟨S1x96x224x224, .f32⟩
  | 89 => ⟨S1x96x224x224, .f32⟩
  | 90 => ⟨S1x96x224x224, .f32⟩
  | 91 => ⟨S1x96x224x224, .f32⟩
  | 92 => ⟨S96x1x1x1, .f32⟩
  | 93 => ⟨S96, .f32⟩
  | 94 => ⟨S1x96x1x1, .f32⟩
  | 95 => ⟨S1x96x224x224, .f32⟩
  | 96 => ⟨S1x96x224x224, .f32⟩
  | 97 => ⟨S1x96x224x224, .f32⟩
  | 98 => ⟨S1x96x224x224, .f32⟩
  | 99 => ⟨S96x1x1x1, .f32⟩
  | 100 => ⟨S96, .f32⟩
  | 101 => ⟨S1x96x1x1, .f32⟩
  | 102 => ⟨S1x96x224x224, .f32⟩
  | 103 => ⟨S1x96x224x224, .f32⟩
  | 104 => ⟨S1x96x224x224, .f32⟩
  | 105 => ⟨S1x96x224x224, .f32⟩
  | 106 => ⟨S96x1x1x1, .f32⟩
  | 107 => ⟨S96, .f32⟩
  | 108 => ⟨S1x96x1x1, .f32⟩
  | 109 => ⟨S1x96x224x224, .f32⟩
  | 110 => ⟨S1x96x224x224, .f32⟩
  | 111 => ⟨S1x96x224x224, .f32⟩
  | 112 => ⟨S1x96x224x224, .f32⟩
  | 113 => ⟨S96x1x1x1, .f32⟩
  | 114 => ⟨S96, .f32⟩
  | 115 => ⟨S1x96x1x1, .f32⟩
  | 116 => ⟨S1x96x224x224, .f32⟩
  | 117 => ⟨S1x96x224x224, .f32⟩
  | 118 => ⟨S1x96x224x224, .f32⟩
  | 119 => ⟨S1x96x224x224, .f32⟩
  | 120 => ⟨S96x1x1x1, .f32⟩
  | 121 => ⟨S96, .f32⟩
  | 122 => ⟨S1x96x1x1, .f32⟩
  | 123 => ⟨S1x96x224x224, .f32⟩
  | 124 => ⟨S1x96x224x224, .f32⟩
  | 125 => ⟨S1x96x224x224, .f32⟩
  | 126 => ⟨S1x96x224x224, .f32⟩
  | 127 => ⟨S96x1x1x1, .f32⟩
  | _ => ⟨S1x96x224x224, .f32⟩

abbrev hbmTy0_2 (i : Nat) : BufTy := match i % 128 with
  | 0 => ⟨S96, .f32⟩
  | 1 => ⟨S1x96x1x1, .f32⟩
  | 2 => ⟨S1x96x224x224, .f32⟩
  | 3 => ⟨S1x96x224x224, .f32⟩
  | 4 => ⟨S1x96x224x224, .f32⟩
  | 5 => ⟨S1x96x224x224, .f32⟩
  | 6 => ⟨S96x1x1x1, .f32⟩
  | 7 => ⟨S96, .f32⟩
  | 8 => ⟨S1x96x1x1, .f32⟩
  | 9 => ⟨S1x96x224x224, .f32⟩
  | 10 => ⟨S1x96x224x224, .f32⟩
  | 11 => ⟨S1x96x224x224, .f32⟩
  | 12 => ⟨S1x96x224x224, .f32⟩
  | 13 => ⟨S96x1x1x1, .f32⟩
  | 14 => ⟨S96, .f32⟩
  | 15 => ⟨S1x96x1x1, .f32⟩
  | 16 => ⟨S1x96x224x224, .f32⟩
  | 17 => ⟨S1x96x224x224, .f32⟩
  | 18 => ⟨S1x96x224x224, .f32⟩
  | 19 => ⟨S1x96x224x224, .f32⟩
  | 20 => ⟨S96x1x1x1, .f32⟩
  | 21 => ⟨S96, .f32⟩
  | 22 => ⟨S1x96x1x1, .f32⟩
  | 23 => ⟨S1x96x224x224, .f32⟩
  | 24 => ⟨S1x96x224x224, .f32⟩
  | 25 => ⟨S1x96x224x224, .f32⟩
  | 26 => ⟨S1x96x224x224, .f32⟩
  | 27 => ⟨S96x1x1x1, .f32⟩
  | 28 => ⟨S96, .f32⟩
  | 29 => ⟨S1x96x1x1, .f32⟩
  | 30 => ⟨S1x96x224x224, .f32⟩
  | 31 => ⟨S1x96x224x224, .f32⟩
  | 32 => ⟨S1x96x224x224, .f32⟩
  | 33 => ⟨S1x96x224x224, .f32⟩
  | 34 => ⟨S96x1x1x1, .f32⟩
  | 35 => ⟨S96, .f32⟩
  | 36 => ⟨S1x96x1x1, .f32⟩
  | 37 => ⟨S1x96x224x224, .f32⟩
  | 38 => ⟨S1x96x224x224, .f32⟩
  | 39 => ⟨S1x96x224x224, .f32⟩
  | 40 => ⟨S1x96x224x224, .f32⟩
  | 41 => ⟨S96x1x1x1, .f32⟩
  | 42 => ⟨S96, .f32⟩
  | 43 => ⟨S1x96x1x1, .f32⟩
  | 44 => ⟨S1x96x224x224, .f32⟩
  | 45 => ⟨S1x96x224x224, .f32⟩
  | 46 => ⟨S1x96x224x224, .f32⟩
  | 47 => ⟨S1x96x224x224, .f32⟩
  | 48 => ⟨S96x1x1x1, .f32⟩
  | 49 => ⟨S96, .f32⟩
  | 50 => ⟨S1x96x1x1, .f32⟩
  | 51 => ⟨S1x96x224x224, .f32⟩
  | 52 => ⟨S1x96x224x224, .f32⟩
  | 53 => ⟨S1x96x224x224, .f32⟩
  | 54 => ⟨S1x96x224x224, .f32⟩
  | 55 => ⟨S96x1x1x1, .f32⟩
  | 56 => ⟨S96, .f32⟩
  | 57 => ⟨S1x96x1x1, .f32⟩
  | 58 => ⟨S1x96x224x224, .f32⟩
  | 59 => ⟨S1x96x224x224, .f32⟩
  | 60 => ⟨S1x96x224x224, .f32⟩
  | 61 => ⟨S1x96x224x224, .f32⟩
  | 62 => ⟨S96x1x1x1, .f32⟩
  | 63 => ⟨S96, .f32⟩
  | 64 => ⟨S1x96x1x1, .f32⟩
  | 65 => ⟨S1x96x224x224, .f32⟩
  | 66 => ⟨S1x96x224x224, .f32⟩
  | 67 => ⟨S1x96x224x224, .f32⟩
  | 68 => ⟨S1x96x224x224, .f32⟩
  | 69 => ⟨S96x1x1x1, .f32⟩
  | 70 => ⟨S96, .f32⟩
  | 71 => ⟨S1x96x1x1, .f32⟩
  | 72 => ⟨S1x96x224x224, .f32⟩
  | 73 => ⟨S1x96x224x224, .f32⟩
  | 74 => ⟨S1x96x224x224, .f32⟩
  | 75 => ⟨S1x96x224x224, .f32⟩
  | 76 => ⟨S96x1x1x1, .f32⟩
  | 77 => ⟨S96, .f32⟩
  | 78 => ⟨S1x96x1x1, .f32⟩
  | 79 => ⟨S1x96x224x224, .f32⟩
  | 80 => ⟨S1x96x224x224, .f32⟩
  | 81 => ⟨S1x96x224x224, .f32⟩
  | 82 => ⟨S1x96x224x224, .f32⟩
  | 83 => ⟨S96x1x1x1, .f32⟩
  | 84 => ⟨S96, .f32⟩
  | 85 => ⟨S1x96x1x1, .f32⟩
  | 86 => ⟨S1x96x224x224, .f32⟩
  | 87 => ⟨S1x96x224x224, .f32⟩
  | 88 => ⟨S1x96x224x224, .f32⟩
  | 89 => ⟨S1x96x224x224, .f32⟩
  | 90 => ⟨S96x1x1x1, .f32⟩
  | 91 => ⟨S96, .f32⟩
  | 92 => ⟨S1x96x1x1, .f32⟩
  | 93 => ⟨S1x96x224x224, .f32⟩
  | 94 => ⟨S1x96x224x224, .f32⟩
  | 95 => ⟨S1x96x224x224, .f32⟩
  | 96 => ⟨S1x96x224x224, .f32⟩
  | 97 => ⟨S96x1x1x1, .f32⟩
  | 98 => ⟨S96, .f32⟩
  | 99 => ⟨S1x96x1x1, .f32⟩
  | 100 => ⟨S1x96x224x224, .f32⟩
  | 101 => ⟨S1x96x224x224, .f32⟩
  | 102 => ⟨S1x96x224x224, .f32⟩
  | 103 => ⟨S1x96x1x1, .f32⟩
  | 104 => ⟨S1x96x224x224, .f32⟩
  | 105 => ⟨S1x96x224x224, .f32⟩
  | 106 => ⟨S1x224x224x96, .f32⟩
  | 107 => ⟨S_, .f32⟩
  | 108 => ⟨S1x224x224, .f32⟩
  | 109 => ⟨S1x224x224x1, .f32⟩
  | 110 => ⟨S_, .f32⟩
  | 111 => ⟨S1x224x224x1, .f32⟩
  | 112 => ⟨S1x224x224x1, .f32⟩
  | 113 => ⟨S_, .i32⟩
  | 114 => ⟨S_, .f32⟩
  | 115 => ⟨S1x224x224, .f32⟩
  | 116 => ⟨S1x224x224x1, .f32⟩
  | 117 => ⟨S_, .f32⟩
  | 118 => ⟨S1x224x224x1, .f32⟩
  | 119 => ⟨S1x224x224x1, .f32⟩
  | 120 => ⟨S1x224x224x96, .f32⟩
  | 121 => ⟨S1x224x224x96, .f32⟩
  | 122 => ⟨S1x224x224x96, .f32⟩
  | 123 => ⟨S_, .f32⟩
  | 124 => ⟨S_, .f32⟩
  | 125 => ⟨S_, .f32⟩
  | 126 => ⟨S_, .f32⟩
  | 127 => ⟨S1x224x224, .f32⟩
  | _ => ⟨S1x96x224x224, .f32⟩

abbrev hbmTy0_3 (i : Nat) : BufTy := match i % 128 with
  | 0 => ⟨S1x224x224x1, .f32⟩
  | 1 => ⟨S1x224x224x1, .f32⟩
  | 2 => ⟨S1x224x224x1, .f32⟩
  | 3 => ⟨S_, .f32⟩
  | 4 => ⟨S_, .i1⟩
  | 5 => ⟨S_, .f32⟩
  | 6 => ⟨S_, .f32⟩
  | 7 => ⟨S1x224x224x1, .f32⟩
  | 8 => ⟨S1x224x224x1, .f32⟩
  | 9 => ⟨S1x224x224x96, .f32⟩
  | 10 => ⟨S1x224x224x96, .f32⟩
  | 11 => ⟨S_, .f32⟩
  | 12 => ⟨S1x224x224x1, .f32⟩
  | 13 => ⟨S1x224x224x1, .f32⟩
  | 14 => ⟨S1x224x224x1, .f32⟩
  | 15 => ⟨S1x224x224x96, .f32⟩
  | 16 => ⟨S1x224x224x96, .f32⟩
  | 17 => ⟨S1x1x1x96, .f32⟩
  | 18 => ⟨S1x224x224x96, .f32⟩
  | 19 => ⟨S1x224x224x96, .f32⟩
  | 20 => ⟨S1x1x1x96, .f32⟩
  | 21 => ⟨S1x224x224x96, .f32⟩
  | 22 => ⟨S1x224x224x96, .f32⟩
  | 23 => ⟨S50176x96, .f32⟩
  | 24 => ⟨S96x8, .f32⟩
  | 25 => ⟨S50176x8, .f32⟩
  | 26 => ⟨S50176x1, .f32⟩
  | 27 => ⟨S50176x1, .i32⟩
  | 28 => ⟨S_, .f32⟩
  | 29 => ⟨S50176, .f32⟩
  | 30 => ⟨S_, .f32⟩
  | 31 => ⟨S50176, .f32⟩
  | 32 => ⟨S50176, .f32⟩
  | 33 => ⟨S50176x1, .f32⟩
  | 34 => ⟨S50176x1, .f32⟩
  | 35 => ⟨S50176x1, .f32⟩
  | 36 => ⟨S_, .f32⟩
  | 37 => ⟨S50176, .f32⟩
  | 38 => ⟨S50176x1, .f32⟩
  | 39 => ⟨S50176x1, .f32⟩
  | 40 => ⟨S_, .f32⟩
  | 41 => ⟨S50176x96, .f32⟩
  | 42 => ⟨S_, .i32⟩
  | 43 => ⟨S50176x1, .i32⟩
  | 44 => ⟨S50176x1, .i1⟩
  | 45 => ⟨S50176x1, .f32⟩
  | 46 => ⟨S50176x1, .f32⟩
  | 47 => ⟨S_, .f32⟩
  | 48 => ⟨S50176, .f32⟩
  | 49 => ⟨S1x96x96, .f32⟩
  | 50 => ⟨S96x96, .f32⟩
  | 51 => ⟨S96x96, .f32⟩
  | 52 => ⟨S50176x96, .f32⟩
  | 53 => ⟨S1x96, .f32⟩
  | 54 => ⟨S96, .f32⟩
  | 55 => ⟨S1x96, .f32⟩
  | 56 => ⟨S50176x96, .f32⟩
  | 57 => ⟨S50176x96, .f32⟩
  | 58 => ⟨S_, .f32⟩
  | 59 => ⟨S50176x96, .f32⟩
  | 60 => ⟨S50176x96, .f32⟩
  | 61 => ⟨S_, .f32⟩
  | 62 => ⟨S_, .f32⟩
  | 63 => ⟨S_, .f32⟩
  | 64 => ⟨S50176x96, .f32⟩
  | 65 => ⟨S50176x96, .f32⟩
  | 66 => ⟨S50176x96, .f32⟩
  | 67 => ⟨S_, .f32⟩
  | 68 => ⟨S50176x96, .f32⟩
  | 69 => ⟨S50176x96, .f32⟩
  | 70 => ⟨S50176x96, .f32⟩
  | 71 => ⟨S1x96x96, .f32⟩
  | 72 => ⟨S96x96, .f32⟩
  | 73 => ⟨S96x96, .f32⟩
  | 74 => ⟨S50176x96, .f32⟩
  | 75 => ⟨S1x96, .f32⟩
  | 76 => ⟨S96, .f32⟩
  | 77 => ⟨S1x96, .f32⟩
  | 78 => ⟨S50176x96, .f32⟩
  | 79 => ⟨S50176x96, .f32⟩
  | 80 => ⟨S50176x1, .f32⟩
  | 81 => ⟨S50176x96, .f32⟩
  | 82 => ⟨S50176x96, .f32⟩
  | 83 => ⟨S50176x96, .f32⟩
  | 84 => ⟨S_, .i32⟩
  | 85 => ⟨S50176x1, .i32⟩
  | 86 => ⟨S50176x1, .i1⟩
  | 87 => ⟨S50176x1, .f32⟩
  | 88 => ⟨S50176x1, .f32⟩
  | 89 => ⟨S_, .f32⟩
  | 90 => ⟨S50176, .f32⟩
  | 91 => ⟨S1x96x96, .f32⟩
  | 92 => ⟨S96x96, .f32⟩
  | 93 => ⟨S96x96, .f32⟩
  | 94 => ⟨S50176x96, .f32⟩
  | 95 => ⟨S1x96, .f32⟩
  | 96 => ⟨S96, .f32⟩
  | 97 => ⟨S1x96, .f32⟩
  | 98 => ⟨S50176x96, .f32⟩
  | 99 => ⟨S50176x96, .f32⟩
  | 100 => ⟨S_, .f32⟩
  | 101 => ⟨S50176x96, .f32⟩
  | 102 => ⟨S50176x96, .f32⟩
  | 103 => ⟨S_, .f32⟩
  | 104 => ⟨S_, .f32⟩
  | 105 => ⟨S_, .f32⟩
  | 106 => ⟨S50176x96, .f32⟩
  | 107 => ⟨S50176x96, .f32⟩
  | 108 => ⟨S50176x96, .f32⟩
  | 109 => ⟨S_, .f32⟩
  | 110 => ⟨S50176x96, .f32⟩
  | 111 => ⟨S50176x96, .f32⟩
  | 112 => ⟨S50176x96, .f32⟩
  | 113 => ⟨S1x96x96, .f32⟩
  | 114 => ⟨S96x96, .f32⟩
  | 115 => ⟨S96x96, .f32⟩
  | 116 => ⟨S50176x96, .f32⟩
  | 117 => ⟨S1x96, .f32⟩
  | 118 => ⟨S96, .f32⟩
  | 119 => ⟨S1x96, .f32⟩
  | 120 => ⟨S50176x96, .f32⟩
  | 121 => ⟨S50176x96, .f32⟩
  | 122 => ⟨S50176x1, .f32⟩
  | 123 => ⟨S50176x96, .f32⟩
  | 124 => ⟨S50176x96, .f32⟩
  | 125 => ⟨S50176x96, .f32⟩
  | 126 => ⟨S_, .i32⟩
  | 127 => ⟨S50176x1, .i32⟩
  | _ => ⟨S1x96x224x224, .f32⟩

abbrev hbmTy0_4 (i : Nat) : BufTy := match i % 128 with
  | 0 => ⟨S50176x1, .i1⟩
  | 1 => ⟨S50176x1, .f32⟩
  | 2 => ⟨S50176x1, .f32⟩
  | 3 => ⟨S_, .f32⟩
  | 4 => ⟨S50176, .f32⟩
  | 5 => ⟨S1x96x96, .f32⟩
  | 6 => ⟨S96x96, .f32⟩
  | 7 => ⟨S96x96, .f32⟩
  | 8 => ⟨S50176x96, .f32⟩
  | 9 => ⟨S1x96, .f32⟩
  | 10 => ⟨S96, .f32⟩
  | 11 => ⟨S1x96, .f32⟩
  | 12 => ⟨S50176x96, .f32⟩
  | 13 => ⟨S50176x96, .f32⟩
  | 14 => ⟨S_, .f32⟩
  | 15 => ⟨S50176x96, .f32⟩
  | 16 => ⟨S50176x96, .f32⟩
  | 17 => ⟨S_, .f32⟩
  | 18 => ⟨S_, .f32⟩
  | 19 => ⟨S_, .f32⟩
  | 20 => ⟨S50176x96, .f32⟩
  | 21 => ⟨S50176x96, .f32⟩
  | 22 => ⟨S50176x96, .f32⟩
  | 23 => ⟨S_, .f32⟩
  | 24 => ⟨S50176x96, .f32⟩
  | 25 => ⟨S50176x96, .f32⟩
  | 26 => ⟨S50176x96, .f32⟩
  | 27 => ⟨S1x96x96, .f32⟩
  | 28 => ⟨S96x96, .f32⟩
  | 29 => ⟨S96x96, .f32⟩
  | 30 => ⟨S50176x96, .f32⟩
  | 31 => ⟨S1x96, .f32⟩
  | 32 => ⟨S96, .f32⟩
  | 33 => ⟨S1x96, .f32⟩
  | 34 => ⟨S50176x96, .f32⟩
  | 35 => ⟨S50176x96, .f32⟩
  | 36 => ⟨S50176x1, .f32⟩
  | 37 => ⟨S50176x96, .f32⟩
  | 38 => ⟨S50176x96, .f32⟩
  | 39 => ⟨S50176x96, .f32⟩
  | 40 => ⟨S_, .i32⟩
  | 41 => ⟨S50176x1, .i32⟩
  | 42 => ⟨S50176x1, .i1⟩
  | 43 => ⟨S50176x1, .f32⟩
  | 44 => ⟨S50176x1, .f32⟩
  | 45 => ⟨S_, .f32⟩
  | 46 => ⟨S50176, .f32⟩
  | 47 => ⟨S1x96x96, .f32⟩
  | 48 => ⟨S96x96, .f32⟩
  | 49 => ⟨S96x96, .f32⟩
  | 50 => ⟨S50176x96, .f32⟩
  | 51 => ⟨S1x96, .f32⟩
  | 52 => ⟨S96, .f32⟩
  | 53 => ⟨S1x96, .f32⟩
  | 54 => ⟨S50176x96, .f32⟩
  | 55 => ⟨S50176x96, .f32⟩
  | 56 => ⟨S_, .f32⟩
  | 57 => ⟨S50176x96, .f32⟩
  | 58 => ⟨S50176x96, .f32⟩
  | 59 => ⟨S_, .f32⟩
  | 60 => ⟨S_, .f32⟩
  | 61 => ⟨S_, .f32⟩
  | 62 => ⟨S50176x96, .f32⟩
  | 63 => ⟨S50176x96, .f32⟩
  | 64 => ⟨S50176x96, .f32⟩
  | 65 => ⟨S_, .f32⟩
  | 66 => ⟨S50176x96, .f32⟩
  | 67 => ⟨S50176x96, .f32⟩
  | 68 => ⟨S50176x96, .f32⟩
  | 69 => ⟨S1x96x96, .f32⟩
  | 70 => ⟨S96x96, .f32⟩
  | 71 => ⟨S96x96, .f32⟩
  | 72 => ⟨S50176x96, .f32⟩
  | 73 => ⟨S1x96, .f32⟩
  | 74 => ⟨S96, .f32⟩
  | 75 => ⟨S1x96, .f32⟩
  | 76 => ⟨S50176x96, .f32⟩
  | 77 => ⟨S50176x96, .f32⟩
  | 78 => ⟨S50176x1, .f32⟩
  | 79 => ⟨S50176x96, .f32⟩
  | 80 => ⟨S50176x96, .f32⟩
  | 81 => ⟨S50176x96, .f32⟩
  | 82 => ⟨S_, .i32⟩
  | 83 => ⟨S50176x1, .i32⟩
  | 84 => ⟨S50176x1, .i1⟩
  | 85 => ⟨S50176x1, .f32⟩
  | 86 => ⟨S50176x1, .f32⟩
  | 87 => ⟨S_, .f32⟩
  | 88 => ⟨S50176, .f32⟩
  | 89 => ⟨S1x96x96, .f32⟩
  | 90 => ⟨S96x96, .f32⟩
  | 91 => ⟨S96x96, .f32⟩
  | 92 => ⟨S50176x96, .f32⟩
  | 93 => ⟨S1x96, .f32⟩
  | 94 => ⟨S96, .f32⟩
  | 95 => ⟨S1x96, .f32⟩
  | 96 => ⟨S50176x96, .f32⟩
  | 97 => ⟨S50176x96, .f32⟩
  | 98 => ⟨S_, .f32⟩
  | 99 => ⟨S50176x96, .f32⟩
  | 100 => ⟨S50176x96, .f32⟩
  | 101 => ⟨S_, .f32⟩
  | 102 => ⟨S_, .f32⟩
  | 103 => ⟨S_, .f32⟩
  | 104 => ⟨S50176x96, .f32⟩
  | 105 => ⟨S50176x96, .f32⟩
  | 106 => ⟨S50176x96, .f32⟩
  | 107 => ⟨S_, .f32⟩
  | 108 => ⟨S50176x96, .f32⟩
  | 109 => ⟨S50176x96, .f32⟩
  | 110 => ⟨S50176x96, .f32⟩
  | 111 => ⟨S1x96x96, .f32⟩
  | 112 => ⟨S96x96, .f32⟩
  | 113 => ⟨S96x96, .f32⟩
  | 114 => ⟨S50176x96, .f32⟩
  | 115 => ⟨S1x96, .f32⟩
  | 116 => ⟨S96, .f32⟩
  | 117 => ⟨S1x96, .f32⟩
  | 118 => ⟨S50176x96, .f32⟩
  | 119 => ⟨S50176x96, .f32⟩
  | 120 => ⟨S50176x1, .f32⟩
  | 121 => ⟨S50176x96, .f32⟩
  | 122 => ⟨S50176x96, .f32⟩
  | 123 => ⟨S50176x96, .f32⟩
  | 124 => ⟨S_, .i32⟩
  | 125 => ⟨S50176x1, .i32⟩
  | 126 => ⟨S50176x1, .i1⟩
  | 127 => ⟨S50176x1, .f32⟩
  | _ => ⟨S1x96x224x224, .f32⟩

abbrev hbmTy0_5 (i : Nat) : BufTy := match i % 128 with
  | 0 => ⟨S50176x1, .f32⟩
  | 1 => ⟨S_, .f32⟩
  | 2 => ⟨S50176, .f32⟩
  | 3 => ⟨S1x96x96, .f32⟩
  | 4 => ⟨S96x96, .f32⟩
  | 5 => ⟨S96x96, .f32⟩
  | 6 => ⟨S50176x96, .f32⟩
  | 7 => ⟨S1x96, .f32⟩
  | 8 => ⟨S96, .f32⟩
  | 9 => ⟨S1x96, .f32⟩
  | 10 => ⟨S50176x96, .f32⟩
  | 11 => ⟨S50176x96, .f32⟩
  | 12 => ⟨S_, .f32⟩
  | 13 => ⟨S50176x96, .f32⟩
  | 14 => ⟨S50176x96, .f32⟩
  | 15 => ⟨S_, .f32⟩
  | 16 => ⟨S_, .f32⟩
  | 17 => ⟨S_, .f32⟩
  | 18 => ⟨S50176x96, .f32⟩
  | 19 => ⟨S50176x96, .f32⟩
  | 20 => ⟨S50176x96, .f32⟩
  | 21 => ⟨S_, .f32⟩
  | 22 => ⟨S50176x96, .f32⟩
  | 23 => ⟨S50176x96, .f32⟩
  | 24 => ⟨S50176x96, .f32⟩
  | 25 => ⟨S1x96x96, .f32⟩
  | 26 => ⟨S96x96, .f32⟩
  | 27 => ⟨S96x96, .f32⟩
  | 28 => ⟨S50176x96, .f32⟩
  | 29 => ⟨S1x96, .f32⟩
  | 30 => ⟨S96, .f32⟩
  | 31 => ⟨S1x96, .f32⟩
  | 32 => ⟨S50176x96, .f32⟩
  | 33 => ⟨S50176x96, .f32⟩
  | 34 => ⟨S50176x1, .f32⟩
  | 35 => ⟨S50176x96, .f32⟩
  | 36 => ⟨S50176x96, .f32⟩
  | 37 => ⟨S50176x96, .f32⟩
  | 38 => ⟨S_, .i32⟩
  | 39 => ⟨S50176x1, .i32⟩
  | 40 => ⟨S50176x1, .i1⟩
  | 41 => ⟨S50176x1, .f32⟩
  | 42 => ⟨S50176x1, .f32⟩
  | 43 => ⟨S_, .f32⟩
  | 44 => ⟨S50176, .f32⟩
  | 45 => ⟨S1x96x96, .f32⟩
  | 46 => ⟨S96x96, .f32⟩
  | 47 => ⟨S96x96, .f32⟩
  | 48 => ⟨S50176x96, .f32⟩
  | 49 => ⟨S1x96, .f32⟩
  | 50 => ⟨S96, .f32⟩
  | 51 => ⟨S1x96, .f32⟩
  | 52 => ⟨S50176x96, .f32⟩
  | 53 => ⟨S50176x96, .f32⟩
  | 54 => ⟨S_, .f32⟩
  | 55 => ⟨S50176x96, .f32⟩
  | 56 => ⟨S50176x96, .f32⟩
  | 57 => ⟨S_, .f32⟩
  | 58 => ⟨S_, .f32⟩
  | 59 => ⟨S_, .f32⟩
  | 60 => ⟨S50176x96, .f32⟩
  | 61 => ⟨S50176x96, .f32⟩
  | 62 => ⟨S50176x96, .f32⟩
  | 63 => ⟨S_, .f32⟩
  | 64 => ⟨S50176x96, .f32⟩
  | 65 => ⟨S50176x96, .f32⟩
  | 66 => ⟨S50176x96, .f32⟩
  | 67 => ⟨S1x96x96, .f32⟩
  | 68 => ⟨S96x96, .f32⟩
  | 69 => ⟨S96x96, .f32⟩
  | 70 => ⟨S50176x96, .f32⟩
  | 71 => ⟨S1x96, .f32⟩
  | 72 => ⟨S96, .f32⟩
  | 73 => ⟨S1x96, .f32⟩
  | 74 => ⟨S50176x96, .f32⟩
  | 75 => ⟨S50176x96, .f32⟩
  | 76 => ⟨S50176x1, .f32⟩
  | 77 => ⟨S50176x96, .f32⟩
  | 78 => ⟨S50176x96, .f32⟩
  | 79 => ⟨S50176x96, .f32⟩
  | 80 => ⟨S_, .i32⟩
  | 81 => ⟨S50176x1, .i32⟩
  | 82 => ⟨S50176x1, .i1⟩
  | 83 => ⟨S50176x1, .f32⟩
  | 84 => ⟨S50176x1, .f32⟩
  | 85 => ⟨S_, .f32⟩
  | 86 => ⟨S50176, .f32⟩
  | 87 => ⟨S1x96x96, .f32⟩
  | 88 => ⟨S96x96, .f32⟩
  | 89 => ⟨S96x96, .f32⟩
  | 90 => ⟨S50176x96, .f32⟩
  | 91 => ⟨S1x96, .f32⟩
  | 92 => ⟨S96, .f32⟩
  | 93 => ⟨S1x96, .f32⟩
  | 94 => ⟨S50176x96, .f32⟩
  | 95 => ⟨S50176x96, .f32⟩
  | 96 => ⟨S_, .f32⟩
  | 97 => ⟨S50176x96, .f32⟩
  | 98 => ⟨S50176x96, .f32⟩
  | 99 => ⟨S_, .f32⟩
  | 100 => ⟨S_, .f32⟩
  | 101 => ⟨S_, .f32⟩
  | 102 => ⟨S50176x96, .f32⟩
  | 103 => ⟨S50176x96, .f32⟩
  | 104 => ⟨S50176x96, .f32⟩
  | 105 => ⟨S_, .f32⟩
  | 106 => ⟨S50176x96, .f32⟩
  | 107 => ⟨S50176x96, .f32⟩
  | 108 => ⟨S50176x96, .f32⟩
  | 109 => ⟨S1x96x96, .f32⟩
  | 110 => ⟨S96x96, .f32⟩
  | 111 => ⟨S96x96, .f32⟩
  | 112 => ⟨S50176x96, .f32⟩
  | 113 => ⟨S1x96, .f32⟩
  | 114 => ⟨S96, .f32⟩
  | 115 => ⟨S1x96, .f32⟩
  | 116 => ⟨S50176x96, .f32⟩
  | 117 => ⟨S50176x96, .f32⟩
  | 118 => ⟨S50176x1, .f32⟩
  | 119 => ⟨S50176x96, .f32⟩
  | 120 => ⟨S50176x96, .f32⟩
  | 121 => ⟨S50176x96, .f32⟩
  | 122 => ⟨S1x224x224x96, .f32⟩
  | 123 => ⟨S1x96x224x224, .f32⟩
  | 124 => ⟨S1x96x1x1, .f32⟩
  | 125 => ⟨S1x96x224x224, .f32⟩
  | 126 => ⟨S1x96x224x224, .f32⟩
  | 127 => ⟨S1x96x224x224, .f32⟩
  | _ => ⟨S1x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_v270 : Ref sig .tc := ⟨.hbm, 284, rfl⟩
abbrev main_v271 : Ref sig .tc := ⟨.hbm, 285, rfl⟩
abbrev main_v272 : Ref sig .tc := ⟨.hbm, 286, rfl⟩
abbrev main_v273 : Ref sig .tc := ⟨.hbm, 287, rfl⟩
abbrev main_v274 : Ref sig .tc := ⟨.hbm, 288, rfl⟩
abbrev main_v275 : Ref sig .tc := ⟨.hbm, 289, rfl⟩
abbrev main_v276 : Ref sig .tc := ⟨.hbm, 290, rfl⟩
abbrev main_v277 : Ref sig .tc := ⟨.hbm, 291, rfl⟩
abbrev main_v278 : Ref sig .tc := ⟨.hbm, 292, rfl⟩
abbrev main_v279 : Ref sig .tc := ⟨.hbm, 293, rfl⟩
abbrev main_v280 : Ref sig .tc := ⟨.hbm, 294, rfl⟩
abbrev main_v281 : Ref sig .tc := ⟨.hbm, 295, rfl⟩
abbrev main_v282 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_v335 : Ref sig .tc := ⟨.hbm, 349, rfl⟩
abbrev main_v336 : Ref sig .tc := ⟨.hbm, 350, rfl⟩
abbrev main_v337 : Ref sig .tc := ⟨.hbm, 351, rfl⟩
abbrev main_v338 : Ref sig .tc := ⟨.hbm, 352, rfl⟩
abbrev main_v339 : Ref sig .tc := ⟨.hbm, 353, rfl⟩
abbrev main_v340 : Ref sig .tc := ⟨.hbm, 354, rfl⟩
abbrev main_v341 : Ref sig .tc := ⟨.hbm, 355, rfl⟩
abbrev main_v342 : Ref sig .tc := ⟨.hbm, 356, rfl⟩
abbrev main_v343 : Ref sig .tc := ⟨.hbm, 357, rfl⟩
abbrev main_v344 : Ref sig .tc := ⟨.hbm, 358, rfl⟩
abbrev main_v345 : Ref sig .tc := ⟨.hbm, 359, rfl⟩
abbrev main_v346 : Ref sig .tc := ⟨.hbm, 360, rfl⟩
abbrev main_v347 : Ref sig .tc := ⟨.hbm, 361, rfl⟩
abbrev main_v348 : Ref sig .tc := ⟨.hbm, 362, rfl⟩
abbrev main_cst_0 : Ref sig .tc := ⟨.hbm, 363, rfl⟩
abbrev main_v349 : Ref sig .tc := ⟨.hbm, 364, rfl⟩
abbrev main_v350 : Ref sig .tc := ⟨.hbm, 365, rfl⟩
abbrev main_cst_1 : Ref sig .tc := ⟨.hbm, 366, rfl⟩
abbrev main_v351 : Ref sig .tc := ⟨.hbm, 367, rfl⟩
abbrev main_v352 : Ref sig .tc := ⟨.hbm, 368, rfl⟩
abbrev main_c_2 : Ref sig .tc := ⟨.hbm, 369, rfl⟩
abbrev main_call1_cst : Ref sig .tc := ⟨.hbm, 370, rfl⟩
abbrev main_call1_v0 : Ref sig .tc := ⟨.hbm, 371, rfl⟩
abbrev main_call1_v1 : Ref sig .tc := ⟨.hbm, 372, rfl⟩
abbrev main_call1_cst_0 : Ref sig .tc := ⟨.hbm, 373, rfl⟩
abbrev main_call1_v2 : Ref sig .tc := ⟨.hbm, 374, rfl⟩
abbrev main_call1_v3 : Ref sig .tc := ⟨.hbm, 375, rfl⟩
abbrev main_call1_v4 : Ref sig .tc := ⟨.hbm, 376, rfl⟩
abbrev main_call1_v5 : Ref sig .tc := ⟨.hbm, 377, rfl⟩
abbrev main_call1_v6 : Ref sig .tc := ⟨.hbm, 378, rfl⟩
abbrev main_call1_v7 : Ref sig .tc := ⟨.hbm, 379, rfl⟩
abbrev main_call1_cst_1 : Ref sig .tc := ⟨.hbm, 380, rfl⟩
abbrev main_call1_v8 : Ref sig .tc := ⟨.hbm, 381, rfl⟩
abbrev main_call1_cst_2 : Ref sig .tc := ⟨.hbm, 382, rfl⟩
abbrev main_call1_v9 : Ref sig .tc := ⟨.hbm, 383, rfl⟩
abbrev main_call1_v10 : Ref sig .tc := ⟨.hbm, 384, rfl⟩
abbrev main_call1_v11 : Ref sig .tc := ⟨.hbm, 385, rfl⟩
abbrev main_call1_v12 : Ref sig .tc := ⟨.hbm, 386, rfl⟩
abbrev main_call1_cst_3 : Ref sig .tc := ⟨.hbm, 387, rfl⟩
abbrev main_call1_v13 : Ref sig .tc := ⟨.hbm, 388, rfl⟩
abbrev main_call1_cst_4 : Ref sig .tc := ⟨.hbm, 389, rfl⟩
abbrev main_call1_call0_v0 : Ref sig .tc := ⟨.hbm, 390, rfl⟩
abbrev main_call1_call0_v1 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_cst_3 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩
abbrev main_v368 : Ref sig .tc := ⟨.hbm, 408, rfl⟩
abbrev main_v369 : Ref sig .tc := ⟨.hbm, 409, rfl⟩
abbrev main_values : Ref sig .tc := ⟨.hbm, 410, rfl⟩
abbrev main_indices : Ref sig .tc := ⟨.hbm, 411, rfl⟩
abbrev main_cst_4 : Ref sig .tc := ⟨.hbm, 412, rfl⟩
abbrev main_v370 : Ref sig .tc := ⟨.hbm, 413, rfl⟩
abbrev main_cst_5 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_v374 : Ref sig .tc := ⟨.hbm, 418, rfl⟩
abbrev main_v375 : Ref sig .tc := ⟨.hbm, 419, rfl⟩
abbrev main_cst_6 : Ref sig .tc := ⟨.hbm, 420, rfl⟩
abbrev main_v376 : Ref sig .tc := ⟨.hbm, 421, rfl⟩
abbrev main_v377 : Ref sig .tc := ⟨.hbm, 422, rfl⟩
abbrev main_v378 : Ref sig .tc := ⟨.hbm, 423, rfl⟩
abbrev main_cst_7 : Ref sig .tc := ⟨.hbm, 424, rfl⟩
abbrev main_v379 : Ref sig .tc := ⟨.hbm, 425, rfl⟩
abbrev main_c_8 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_cst_9 : Ref sig .tc := ⟨.hbm, 431, rfl⟩
abbrev main_v384 : Ref sig .tc := ⟨.hbm, 432, rfl⟩
abbrev main_v385 : Ref sig .tc := ⟨.hbm, 433, rfl⟩
abbrev main_v386 : Ref sig .tc := ⟨.hbm, 434, rfl⟩
abbrev main_v387 : Ref sig .tc := ⟨.hbm, 435, rfl⟩
abbrev main_v388 : Ref sig .tc := ⟨.hbm, 436, rfl⟩
abbrev main_v389 : Ref sig .tc := ⟨.hbm, 437, rfl⟩
abbrev main_v390 : Ref sig .tc := ⟨.hbm, 438, rfl⟩
abbrev main_v391 : Ref sig .tc := ⟨.hbm, 439, rfl⟩
abbrev main_v392 : Ref sig .tc := ⟨.hbm, 440, rfl⟩
abbrev main_v393 : Ref sig .tc := ⟨.hbm, 441, rfl⟩
abbrev main_cst_10 : Ref sig .tc := ⟨.hbm, 442, rfl⟩
abbrev main_v394 : Ref sig .tc := ⟨.hbm, 443, rfl⟩
abbrev main_v395 : Ref sig .tc := ⟨.hbm, 444, rfl⟩
abbrev main_cst_11 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_cst_12 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_v406 : Ref sig .tc := ⟨.hbm, 457, rfl⟩
abbrev main_v407 : Ref sig .tc := ⟨.hbm, 458, rfl⟩
abbrev main_v408 : Ref sig .tc := ⟨.hbm, 459, rfl⟩
abbrev main_v409 : Ref sig .tc := ⟨.hbm, 460, rfl⟩
abbrev main_v410 : Ref sig .tc := ⟨.hbm, 461, rfl⟩
abbrev main_v411 : Ref sig .tc := ⟨.hbm, 462, rfl⟩
abbrev main_v412 : Ref sig .tc := ⟨.hbm, 463, rfl⟩
abbrev main_v413 : Ref sig .tc := ⟨.hbm, 464, rfl⟩
abbrev main_v414 : Ref sig .tc := ⟨.hbm, 465, rfl⟩
abbrev main_v415 : Ref sig .tc := ⟨.hbm, 466, rfl⟩
abbrev main_v416 : Ref sig .tc := ⟨.hbm, 467, rfl⟩
abbrev main_c_13 : Ref sig .tc := ⟨.hbm, 468, rfl⟩
abbrev main_v417 : Ref sig .tc := ⟨.hbm, 469, rfl⟩
abbrev main_v418 : Ref sig .tc := ⟨.hbm, 470, rfl⟩
abbrev main_v419 : Ref sig .tc := ⟨.hbm, 471, rfl⟩
abbrev main_v420 : Ref sig .tc := ⟨.hbm, 472, rfl⟩
abbrev main_cst_14 : Ref sig .tc := ⟨.hbm, 473, rfl⟩
abbrev main_v421 : Ref sig .tc := ⟨.hbm, 474, rfl⟩
abbrev main_v422 : Ref sig .tc := ⟨.hbm, 475, rfl⟩
abbrev main_v423 : Ref sig .tc := ⟨.hbm, 476, rfl⟩
abbrev main_v424 : Ref sig .tc := ⟨.hbm, 477, rfl⟩
abbrev main_v425 : Ref sig .tc := ⟨.hbm, 478, rfl⟩
abbrev main_v426 : Ref sig .tc := ⟨.hbm, 479, rfl⟩
abbrev main_v427 : Ref sig .tc := ⟨.hbm, 480, rfl⟩
abbrev main_v428 : Ref sig .tc := ⟨.hbm, 481, rfl⟩
abbrev main_v429 : Ref sig .tc := ⟨.hbm, 482, rfl⟩
abbrev main_v430 : Ref sig .tc := ⟨.hbm, 483, rfl⟩
abbrev main_cst_15 : Ref sig .tc := ⟨.hbm, 484, rfl⟩
abbrev main_v431 : Ref sig .tc := ⟨.hbm, 485, rfl⟩
abbrev main_v432 : Ref sig .tc := ⟨.hbm, 486, rfl⟩
abbrev main_cst_16 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_cst_17 : Ref sig .tc := ⟨.hbm, 493, rfl⟩
abbrev main_v438 : Ref sig .tc := ⟨.hbm, 494, rfl⟩
abbrev main_v439 : Ref sig .tc := ⟨.hbm, 495, rfl⟩
abbrev main_v440 : Ref sig .tc := ⟨.hbm, 496, rfl⟩
abbrev main_v441 : Ref sig .tc := ⟨.hbm, 497, rfl⟩
abbrev main_v442 : Ref sig .tc := ⟨.hbm, 498, rfl⟩
abbrev main_v443 : Ref sig .tc := ⟨.hbm, 499, rfl⟩
abbrev main_v444 : Ref sig .tc := ⟨.hbm, 500, rfl⟩
abbrev main_v445 : Ref sig .tc := ⟨.hbm, 501, rfl⟩
abbrev main_v446 : Ref sig .tc := ⟨.hbm, 502, rfl⟩
abbrev main_v447 : Ref sig .tc := ⟨.hbm, 503, rfl⟩
abbrev main_v448 : Ref sig .tc := ⟨.hbm, 504, rfl⟩
abbrev main_v449 : Ref sig .tc := ⟨.hbm, 505, rfl⟩
abbrev main_v450 : Ref sig .tc := ⟨.hbm, 506, rfl⟩
abbrev main_v451 : Ref sig .tc := ⟨.hbm, 507, rfl⟩
abbrev main_v452 : Ref sig .tc := ⟨.hbm, 508, rfl⟩
abbrev main_v453 : Ref sig .tc := ⟨.hbm, 509, rfl⟩
abbrev main_c_18 : Ref sig .tc := ⟨.hbm, 510, rfl⟩
abbrev main_v454 : Ref sig .tc := ⟨.hbm, 511, rfl⟩
abbrev main_v455 : Ref sig .tc := ⟨.hbm, 512, rfl⟩
abbrev main_v456 : Ref sig .tc := ⟨.hbm, 513, rfl⟩
abbrev main_v457 : Ref sig .tc := ⟨.hbm, 514, rfl⟩
abbrev main_cst_19 : Ref sig .tc := ⟨.hbm, 515, rfl⟩
abbrev main_v458 : Ref sig .tc := ⟨.hbm, 516, rfl⟩
abbrev main_v459 : Ref sig .tc := ⟨.hbm, 517, rfl⟩
abbrev main_v460 : Ref sig .tc := ⟨.hbm, 518, rfl⟩
abbrev main_v461 : Ref sig .tc := ⟨.hbm, 519, rfl⟩
abbrev main_v462 : Ref sig .tc := ⟨.hbm, 520, rfl⟩
abbrev main_v463 : Ref sig .tc := ⟨.hbm, 521, rfl⟩
abbrev main_v464 : Ref sig .tc := ⟨.hbm, 522, rfl⟩
abbrev main_v465 : Ref sig .tc := ⟨.hbm, 523, rfl⟩
abbrev main_v466 : Ref sig .tc := ⟨.hbm, 524, rfl⟩
abbrev main_v467 : Ref sig .tc := ⟨.hbm, 525, rfl⟩
abbrev main_cst_20 : Ref sig .tc := ⟨.hbm, 526, rfl⟩
abbrev main_v468 : Ref sig .tc := ⟨.hbm, 527, rfl⟩
abbrev main_v469 : Ref sig .tc := ⟨.hbm, 528, rfl⟩
abbrev main_cst_21 : Ref sig .tc := ⟨.hbm, 529, rfl⟩
abbrev main_v470 : Ref sig .tc := ⟨.hbm, 530, rfl⟩
abbrev main_v471 : Ref sig .tc := ⟨.hbm, 531, rfl⟩
abbrev main_v472 : Ref sig .tc := ⟨.hbm, 532, rfl⟩
abbrev main_v473 : Ref sig .tc := ⟨.hbm, 533, rfl⟩
abbrev main_v474 : Ref sig .tc := ⟨.hbm, 534, rfl⟩
abbrev main_cst_22 : Ref sig .tc := ⟨.hbm, 535, rfl⟩
abbrev main_v475 : Ref sig .tc := ⟨.hbm, 536, rfl⟩
abbrev main_v476 : Ref sig .tc := ⟨.hbm, 537, rfl⟩
abbrev main_v477 : Ref sig .tc := ⟨.hbm, 538, rfl⟩
abbrev main_v478 : Ref sig .tc := ⟨.hbm, 539, rfl⟩
abbrev main_v479 : Ref sig .tc := ⟨.hbm, 540, rfl⟩
abbrev main_v480 : Ref sig .tc := ⟨.hbm, 541, rfl⟩
abbrev main_v481 : Ref sig .tc := ⟨.hbm, 542, rfl⟩
abbrev main_v482 : Ref sig .tc := ⟨.hbm, 543, rfl⟩
abbrev main_v483 : Ref sig .tc := ⟨.hbm, 544, rfl⟩
abbrev main_v484 : Ref sig .tc := ⟨.hbm, 545, rfl⟩
abbrev main_v485 : Ref sig .tc := ⟨.hbm, 546, rfl⟩
abbrev main_v486 : Ref sig .tc := ⟨.hbm, 547, rfl⟩
abbrev main_v487 : Ref sig .tc := ⟨.hbm, 548, rfl⟩
abbrev main_v488 : Ref sig .tc := ⟨.hbm, 549, rfl⟩
abbrev main_v489 : Ref sig .tc := ⟨.hbm, 550, rfl⟩
abbrev main_v490 : Ref sig .tc := ⟨.hbm, 551, rfl⟩
abbrev main_c_23 : Ref sig .tc := ⟨.hbm, 552, rfl⟩
abbrev main_v491 : Ref sig .tc := ⟨.hbm, 553, rfl⟩
abbrev main_v492 : Ref sig .tc := ⟨.hbm, 554, rfl⟩
abbrev main_v493 : Ref sig .tc := ⟨.hbm, 555, rfl⟩
abbrev main_v494 : Ref sig .tc := ⟨.hbm, 556, rfl⟩
abbrev main_cst_24 : Ref sig .tc := ⟨.hbm, 557, rfl⟩
abbrev main_v495 : Ref sig .tc := ⟨.hbm, 558, rfl⟩
abbrev main_v496 : Ref sig .tc := ⟨.hbm, 559, rfl⟩
abbrev main_v497 : Ref sig .tc := ⟨.hbm, 560, rfl⟩
abbrev main_v498 : Ref sig .tc := ⟨.hbm, 561, rfl⟩
abbrev main_v499 : Ref sig .tc := ⟨.hbm, 562, rfl⟩
abbrev main_v500 : Ref sig .tc := ⟨.hbm, 563, rfl⟩
abbrev main_v501 : Ref sig .tc := ⟨.hbm, 564, rfl⟩
abbrev main_v502 : Ref sig .tc := ⟨.hbm, 565, rfl⟩
abbrev main_v503 : Ref sig .tc := ⟨.hbm, 566, rfl⟩
abbrev main_v504 : Ref sig .tc := ⟨.hbm, 567, rfl⟩
abbrev main_cst_25 : Ref sig .tc := ⟨.hbm, 568, rfl⟩
abbrev main_v505 : Ref sig .tc := ⟨.hbm, 569, rfl⟩
abbrev main_v506 : Ref sig .tc := ⟨.hbm, 570, rfl⟩
abbrev main_cst_26 : Ref sig .tc := ⟨.hbm, 571, rfl⟩
abbrev main_v507 : Ref sig .tc := ⟨.hbm, 572, rfl⟩
abbrev main_v508 : Ref sig .tc := ⟨.hbm, 573, rfl⟩
abbrev main_v509 : Ref sig .tc := ⟨.hbm, 574, rfl⟩
abbrev main_v510 : Ref sig .tc := ⟨.hbm, 575, rfl⟩
abbrev main_v511 : Ref sig .tc := ⟨.hbm, 576, rfl⟩
abbrev main_cst_27 : Ref sig .tc := ⟨.hbm, 577, rfl⟩
abbrev main_v512 : Ref sig .tc := ⟨.hbm, 578, rfl⟩
abbrev main_v513 : Ref sig .tc := ⟨.hbm, 579, rfl⟩
abbrev main_v514 : Ref sig .tc := ⟨.hbm, 580, rfl⟩
abbrev main_v515 : Ref sig .tc := ⟨.hbm, 581, rfl⟩
abbrev main_v516 : Ref sig .tc := ⟨.hbm, 582, rfl⟩
abbrev main_v517 : Ref sig .tc := ⟨.hbm, 583, rfl⟩
abbrev main_v518 : Ref sig .tc := ⟨.hbm, 584, rfl⟩
abbrev main_v519 : Ref sig .tc := ⟨.hbm, 585, rfl⟩
abbrev main_v520 : Ref sig .tc := ⟨.hbm, 586, rfl⟩
abbrev main_v521 : Ref sig .tc := ⟨.hbm, 587, rfl⟩
abbrev main_v522 : Ref sig .tc := ⟨.hbm, 588, rfl⟩
abbrev main_v523 : Ref sig .tc := ⟨.hbm, 589, rfl⟩
abbrev main_v524 : Ref sig .tc := ⟨.hbm, 590, rfl⟩
abbrev main_v525 : Ref sig .tc := ⟨.hbm, 591, rfl⟩
abbrev main_v526 : Ref sig .tc := ⟨.hbm, 592, rfl⟩
abbrev main_v527 : Ref sig .tc := ⟨.hbm, 593, rfl⟩
abbrev main_c_28 : Ref sig .tc := ⟨.hbm, 594, rfl⟩
abbrev main_v528 : Ref sig .tc := ⟨.hbm, 595, rfl⟩
abbrev main_v529 : Ref sig .tc := ⟨.hbm, 596, rfl⟩
abbrev main_v530 : Ref sig .tc := ⟨.hbm, 597, rfl⟩
abbrev main_v531 : Ref sig .tc := ⟨.hbm, 598, rfl⟩
abbrev main_cst_29 : Ref sig .tc := ⟨.hbm, 599, rfl⟩
abbrev main_v532 : Ref sig .tc := ⟨.hbm, 600, rfl⟩
abbrev main_v533 : Ref sig .tc := ⟨.hbm, 601, rfl⟩
abbrev main_v534 : Ref sig .tc := ⟨.hbm, 602, rfl⟩
abbrev main_v535 : Ref sig .tc := ⟨.hbm, 603, rfl⟩
abbrev main_v536 : Ref sig .tc := ⟨.hbm, 604, rfl⟩
abbrev main_v537 : Ref sig .tc := ⟨.hbm, 605, rfl⟩
abbrev main_v538 : Ref sig .tc := ⟨.hbm, 606, rfl⟩
abbrev main_v539 : Ref sig .tc := ⟨.hbm, 607, rfl⟩
abbrev main_v540 : Ref sig .tc := ⟨.hbm, 608, rfl⟩
abbrev main_v541 : Ref sig .tc := ⟨.hbm, 609, rfl⟩
abbrev main_cst_30 : Ref sig .tc := ⟨.hbm, 610, rfl⟩
abbrev main_v542 : Ref sig .tc := ⟨.hbm, 611, rfl⟩
abbrev main_v543 : Ref sig .tc := ⟨.hbm, 612, rfl⟩
abbrev main_cst_31 : Ref sig .tc := ⟨.hbm, 613, rfl⟩
abbrev main_v544 : Ref sig .tc := ⟨.hbm, 614, rfl⟩
abbrev main_v545 : Ref sig .tc := ⟨.hbm, 615, rfl⟩
abbrev main_v546 : Ref sig .tc := ⟨.hbm, 616, rfl⟩
abbrev main_v547 : Ref sig .tc := ⟨.hbm, 617, rfl⟩
abbrev main_v548 : Ref sig .tc := ⟨.hbm, 618, rfl⟩
abbrev main_cst_32 : Ref sig .tc := ⟨.hbm, 619, rfl⟩
abbrev main_v549 : Ref sig .tc := ⟨.hbm, 620, rfl⟩
abbrev main_v550 : Ref sig .tc := ⟨.hbm, 621, rfl⟩
abbrev main_v551 : Ref sig .tc := ⟨.hbm, 622, rfl⟩
abbrev main_v552 : Ref sig .tc := ⟨.hbm, 623, rfl⟩
abbrev main_v553 : Ref sig .tc := ⟨.hbm, 624, rfl⟩
abbrev main_v554 : Ref sig .tc := ⟨.hbm, 625, rfl⟩
abbrev main_v555 : Ref sig .tc := ⟨.hbm, 626, rfl⟩
abbrev main_v556 : Ref sig .tc := ⟨.hbm, 627, rfl⟩
abbrev main_v557 : Ref sig .tc := ⟨.hbm, 628, rfl⟩
abbrev main_v558 : Ref sig .tc := ⟨.hbm, 629, rfl⟩
abbrev main_v559 : Ref sig .tc := ⟨.hbm, 630, rfl⟩
abbrev main_v560 : Ref sig .tc := ⟨.hbm, 631, rfl⟩
abbrev main_v561 : Ref sig .tc := ⟨.hbm, 632, rfl⟩
abbrev main_v562 : Ref sig .tc := ⟨.hbm, 633, rfl⟩
abbrev main_v563 : Ref sig .tc := ⟨.hbm, 634, rfl⟩
abbrev main_v564 : Ref sig .tc := ⟨.hbm, 635, rfl⟩
abbrev main_c_33 : Ref sig .tc := ⟨.hbm, 636, rfl⟩
abbrev main_v565 : Ref sig .tc := ⟨.hbm, 637, rfl⟩
abbrev main_v566 : Ref sig .tc := ⟨.hbm, 638, rfl⟩
abbrev main_v567 : Ref sig .tc := ⟨.hbm, 639, rfl⟩
abbrev main_v568 : Ref sig .tc := ⟨.hbm, 640, rfl⟩
abbrev main_cst_34 : Ref sig .tc := ⟨.hbm, 641, rfl⟩
abbrev main_v569 : Ref sig .tc := ⟨.hbm, 642, rfl⟩
abbrev main_v570 : Ref sig .tc := ⟨.hbm, 643, rfl⟩
abbrev main_v571 : Ref sig .tc := ⟨.hbm, 644, rfl⟩
abbrev main_v572 : Ref sig .tc := ⟨.hbm, 645, rfl⟩
abbrev main_v573 : Ref sig .tc := ⟨.hbm, 646, rfl⟩
abbrev main_v574 : Ref sig .tc := ⟨.hbm, 647, rfl⟩
abbrev main_v575 : Ref sig .tc := ⟨.hbm, 648, rfl⟩
abbrev main_v576 : Ref sig .tc := ⟨.hbm, 649, rfl⟩
abbrev main_v577 : Ref sig .tc := ⟨.hbm, 650, rfl⟩
abbrev main_v578 : Ref sig .tc := ⟨.hbm, 651, rfl⟩
abbrev main_cst_35 : Ref sig .tc := ⟨.hbm, 652, rfl⟩
abbrev main_v579 : Ref sig .tc := ⟨.hbm, 653, rfl⟩
abbrev main_v580 : Ref sig .tc := ⟨.hbm, 654, rfl⟩
abbrev main_cst_36 : Ref sig .tc := ⟨.hbm, 655, rfl⟩
abbrev main_v581 : Ref sig .tc := ⟨.hbm, 656, rfl⟩
abbrev main_v582 : Ref sig .tc := ⟨.hbm, 657, rfl⟩
abbrev main_v583 : Ref sig .tc := ⟨.hbm, 658, rfl⟩
abbrev main_v584 : Ref sig .tc := ⟨.hbm, 659, rfl⟩
abbrev main_v585 : Ref sig .tc := ⟨.hbm, 660, rfl⟩
abbrev main_cst_37 : Ref sig .tc := ⟨.hbm, 661, rfl⟩
abbrev main_v586 : Ref sig .tc := ⟨.hbm, 662, rfl⟩
abbrev main_v587 : Ref sig .tc := ⟨.hbm, 663, rfl⟩
abbrev main_v588 : Ref sig .tc := ⟨.hbm, 664, rfl⟩
abbrev main_v589 : Ref sig .tc := ⟨.hbm, 665, rfl⟩
abbrev main_v590 : Ref sig .tc := ⟨.hbm, 666, rfl⟩
abbrev main_v591 : Ref sig .tc := ⟨.hbm, 667, rfl⟩
abbrev main_v592 : Ref sig .tc := ⟨.hbm, 668, rfl⟩
abbrev main_v593 : Ref sig .tc := ⟨.hbm, 669, rfl⟩
abbrev main_v594 : Ref sig .tc := ⟨.hbm, 670, rfl⟩
abbrev main_v595 : Ref sig .tc := ⟨.hbm, 671, rfl⟩
abbrev main_v596 : Ref sig .tc := ⟨.hbm, 672, rfl⟩
abbrev main_v597 : Ref sig .tc := ⟨.hbm, 673, rfl⟩
abbrev main_v598 : Ref sig .tc := ⟨.hbm, 674, rfl⟩
abbrev main_v599 : Ref sig .tc := ⟨.hbm, 675, rfl⟩
abbrev main_v600 : Ref sig .tc := ⟨.hbm, 676, rfl⟩
abbrev main_v601 : Ref sig .tc := ⟨.hbm, 677, rfl⟩
abbrev main_c_38 : Ref sig .tc := ⟨.hbm, 678, rfl⟩
abbrev main_v602 : Ref sig .tc := ⟨.hbm, 679, rfl⟩
abbrev main_v603 : Ref sig .tc := ⟨.hbm, 680, rfl⟩
abbrev main_v604 : Ref sig .tc := ⟨.hbm, 681, rfl⟩
abbrev main_v605 : Ref sig .tc := ⟨.hbm, 682, rfl⟩
abbrev main_cst_39 : Ref sig .tc := ⟨.hbm, 683, rfl⟩
abbrev main_v606 : Ref sig .tc := ⟨.hbm, 684, rfl⟩
abbrev main_v607 : Ref sig .tc := ⟨.hbm, 685, rfl⟩
abbrev main_v608 : Ref sig .tc := ⟨.hbm, 686, rfl⟩
abbrev main_v609 : Ref sig .tc := ⟨.hbm, 687, rfl⟩
abbrev main_v610 : Ref sig .tc := ⟨.hbm, 688, rfl⟩
abbrev main_v611 : Ref sig .tc := ⟨.hbm, 689, rfl⟩
abbrev main_v612 : Ref sig .tc := ⟨.hbm, 690, rfl⟩
abbrev main_v613 : Ref sig .tc := ⟨.hbm, 691, rfl⟩
abbrev main_v614 : Ref sig .tc := ⟨.hbm, 692, rfl⟩
abbrev main_v615 : Ref sig .tc := ⟨.hbm, 693, rfl⟩
abbrev main_cst_40 : Ref sig .tc := ⟨.hbm, 694, rfl⟩
abbrev main_v616 : Ref sig .tc := ⟨.hbm, 695, rfl⟩
abbrev main_v617 : Ref sig .tc := ⟨.hbm, 696, rfl⟩
abbrev main_cst_41 : Ref sig .tc := ⟨.hbm, 697, rfl⟩
abbrev main_v618 : Ref sig .tc := ⟨.hbm, 698, rfl⟩
abbrev main_v619 : Ref sig .tc := ⟨.hbm, 699, rfl⟩
abbrev main_v620 : Ref sig .tc := ⟨.hbm, 700, rfl⟩
abbrev main_v621 : Ref sig .tc := ⟨.hbm, 701, rfl⟩
abbrev main_v622 : Ref sig .tc := ⟨.hbm, 702, rfl⟩
abbrev main_cst_42 : Ref sig .tc := ⟨.hbm, 703, rfl⟩
abbrev main_v623 : Ref sig .tc := ⟨.hbm, 704, rfl⟩
abbrev main_v624 : Ref sig .tc := ⟨.hbm, 705, rfl⟩
abbrev main_v625 : Ref sig .tc := ⟨.hbm, 706, rfl⟩
abbrev main_v626 : Ref sig .tc := ⟨.hbm, 707, rfl⟩
abbrev main_v627 : Ref sig .tc := ⟨.hbm, 708, rfl⟩
abbrev main_v628 : Ref sig .tc := ⟨.hbm, 709, rfl⟩
abbrev main_v629 : Ref sig .tc := ⟨.hbm, 710, rfl⟩
abbrev main_v630 : Ref sig .tc := ⟨.hbm, 711, rfl⟩
abbrev main_v631 : Ref sig .tc := ⟨.hbm, 712, rfl⟩
abbrev main_v632 : Ref sig .tc := ⟨.hbm, 713, rfl⟩
abbrev main_v633 : Ref sig .tc := ⟨.hbm, 714, rfl⟩
abbrev main_v634 : Ref sig .tc := ⟨.hbm, 715, rfl⟩
abbrev main_v635 : Ref sig .tc := ⟨.hbm, 716, rfl⟩
abbrev main_v636 : Ref sig .tc := ⟨.hbm, 717, rfl⟩
abbrev main_v637 : Ref sig .tc := ⟨.hbm, 718, rfl⟩
abbrev main_v638 : Ref sig .tc := ⟨.hbm, 719, rfl⟩
abbrev main_c_43 : Ref sig .tc := ⟨.hbm, 720, rfl⟩
abbrev main_v639 : Ref sig .tc := ⟨.hbm, 721, rfl⟩
abbrev main_v640 : Ref sig .tc := ⟨.hbm, 722, rfl⟩
abbrev main_v641 : Ref sig .tc := ⟨.hbm, 723, rfl⟩
abbrev main_v642 : Ref sig .tc := ⟨.hbm, 724, rfl⟩
abbrev main_cst_44 : Ref sig .tc := ⟨.hbm, 725, rfl⟩
abbrev main_v643 : Ref sig .tc := ⟨.hbm, 726, rfl⟩
abbrev main_v644 : Ref sig .tc := ⟨.hbm, 727, rfl⟩
abbrev main_v645 : Ref sig .tc := ⟨.hbm, 728, rfl⟩
abbrev main_v646 : Ref sig .tc := ⟨.hbm, 729, rfl⟩
abbrev main_v647 : Ref sig .tc := ⟨.hbm, 730, rfl⟩
abbrev main_v648 : Ref sig .tc := ⟨.hbm, 731, rfl⟩
abbrev main_v649 : Ref sig .tc := ⟨.hbm, 732, rfl⟩
abbrev main_v650 : Ref sig .tc := ⟨.hbm, 733, rfl⟩
abbrev main_v651 : Ref sig .tc := ⟨.hbm, 734, rfl⟩
abbrev main_v652 : Ref sig .tc := ⟨.hbm, 735, rfl⟩
abbrev main_cst_45 : Ref sig .tc := ⟨.hbm, 736, rfl⟩
abbrev main_v653 : Ref sig .tc := ⟨.hbm, 737, rfl⟩
abbrev main_v654 : Ref sig .tc := ⟨.hbm, 738, rfl⟩
abbrev main_cst_46 : Ref sig .tc := ⟨.hbm, 739, rfl⟩
abbrev main_v655 : Ref sig .tc := ⟨.hbm, 740, rfl⟩
abbrev main_v656 : Ref sig .tc := ⟨.hbm, 741, rfl⟩
abbrev main_v657 : Ref sig .tc := ⟨.hbm, 742, rfl⟩
abbrev main_v658 : Ref sig .tc := ⟨.hbm, 743, rfl⟩
abbrev main_v659 : Ref sig .tc := ⟨.hbm, 744, rfl⟩
abbrev main_cst_47 : Ref sig .tc := ⟨.hbm, 745, rfl⟩
abbrev main_v660 : Ref sig .tc := ⟨.hbm, 746, rfl⟩
abbrev main_v661 : Ref sig .tc := ⟨.hbm, 747, rfl⟩
abbrev main_v662 : Ref sig .tc := ⟨.hbm, 748, rfl⟩
abbrev main_v663 : Ref sig .tc := ⟨.hbm, 749, rfl⟩
abbrev main_v664 : Ref sig .tc := ⟨.hbm, 750, rfl⟩
abbrev main_v665 : Ref sig .tc := ⟨.hbm, 751, rfl⟩
abbrev main_v666 : Ref sig .tc := ⟨.hbm, 752, rfl⟩
abbrev main_v667 : Ref sig .tc := ⟨.hbm, 753, rfl⟩
abbrev main_v668 : Ref sig .tc := ⟨.hbm, 754, rfl⟩
abbrev main_v669 : Ref sig .tc := ⟨.hbm, 755, rfl⟩
abbrev main_v670 : Ref sig .tc := ⟨.hbm, 756, rfl⟩
abbrev main_v671 : Ref sig .tc := ⟨.hbm, 757, rfl⟩
abbrev main_v672 : Ref sig .tc := ⟨.hbm, 758, rfl⟩
abbrev main_v673 : Ref sig .tc := ⟨.hbm, 759, rfl⟩
abbrev main_v674 : Ref sig .tc := ⟨.hbm, 760, rfl⟩
abbrev main_v675 : Ref sig .tc := ⟨.hbm, 761, rfl⟩
abbrev main_v676 : Ref sig .tc := ⟨.hbm, 762, rfl⟩
abbrev main_v677 : Ref sig .tc := ⟨.hbm, 763, rfl⟩
abbrev main_v678 : Ref sig .tc := ⟨.hbm, 764, rfl⟩
abbrev main_v679 : Ref sig .tc := ⟨.hbm, 765, rfl⟩
abbrev main_v680 : Ref sig .tc := ⟨.hbm, 766, rfl⟩
abbrev main_v681 : Ref sig .tc := ⟨.hbm, 767, rfl⟩

abbrev nD : Nat := 1
abbrev τ : Topo := Topo.v7x

variable {F : FTy → Type} [FloatOps F]

def κ : String → Option EReal := fun
  | "rsqrt2" => some ((Real.sqrt (2⁻¹) : ℝ) : EReal)
  | _ => none
-- ==== Proof.IdealBody.lean ====
/-
  One point of the grid, run: from the twelve input blocks and the two scratch blocks it finds, the kernel's body leaves
  the output block, the two scratch blocks and the input blocks as the functions `bOut`, `bKeep`, `bNorm` below say.
-/
module

public import proofs.«01_k».proof.Proof.Gen.KernelIdeal.Skeleton
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one point of the grid computes, as functions of the blocks it is handed

`s` is the layer-normed block left by the point before (`xln_s` as found), `y` the expert outputs left by the point
before (`yp_s` as found), `x1 … x12` the input blocks. -/

/-- A whole block, as the body loads it. -/
abbrev whole2048 {e : EltTy} (x : Vec F S96x2048 e) : Vec F S96x2048 e :=
  View.ld x (Rect.unit (s := S96x2048) ![0, 0] S96x2048.size inb_S96x2048_S96x2048_0_0)
/-- The gates, as the body loads them. -/
abbrev wholeGate (x9 : Vec F S8x96 .f32) : Vec F S8x96 .f32 :=
  View.ld x9 (Rect.unit (s := S8x96) ![0, 0] S8x96.size inb_S8x96_S8x96_0_0)
/-- A table of stacked expert weights, as the body loads it. -/
abbrev whole784 (x : Vec F S96x784 .bf16) : Vec F S96x784 .bf16 :=
  View.ld x (Rect.unit (s := S96x784) ![0, 0] S96x784.size inb_S96x784_S96x784_0_0)
/-- A column, as the body loads it. -/
abbrev wholeCol (x : Vec F S96x1 .f32) : Vec F S96x1 .f32 :=
  View.ld x (Rect.unit (s := S96x1) ![0, 0] S96x1.size inb_S96x1_S96x1_0_0)

/-- The logits of the eight experts at each of the block's positions. -/
def bLogits (s : Vec F S96x2048 .f32) (x9 : Vec F S8x96 .f32) : FVec F S8x2048 .f32 := k0_pay2 (whole2048 s) (wholeGate x9)
/-- Their maximum. -/
def bMax (s : Vec F S96x2048 .f32) (x9 : Vec F S8x96 .f32) : FVec F S1x2048 .f32 := k0_pay3 (whole2048 s) (wholeGate x9)
/-- Whether one of experts 0 … 4 is taken. -/
def bTaken4 (s : Vec F S96x2048 .f32) (x9 : Vec F S8x96 .f32) : IVec S1x2048 1 := k0_pay18 (whole2048 s) (wholeGate x9)
/-- Expert 5's logits. -/
def bLogit5 (s : Vec F S96x2048 .f32) (x9 : Vec F S8x96 .f32) : FVec F S1x2048 .f32 := k0_pay20 (whole2048 s) (wholeGate x9)

/-- Expert 0's mask: one where it is the expert taken. -/
def bMask0 (s : Vec F S96x2048 .f32) (x9 : Vec F S8x96 .f32) : FVec F S1x2048 .bf16 := k0_pay7 (whole2048 s) (wholeGate x9)

/-- Expert 1's mask: one where it is the expert taken. -/
def bMask1 (s : Vec F S96x2048 .f32) (x9 : Vec F S8x96 .f32) : FVec F S1x2048 .bf16 := k0_pay10 (whole2048 s) (wholeGate x9)

/-- Expert 2's mask: one where it is the expert taken. -/
def bMask2 (s : Vec F S96x2048 .f32) (x9 : Vec F S8x96 .f32) : FVec F S1x2048 .bf16 := k0_pay13 (whole2048 s) (wholeGate x9)

/-- Expert 3's mask: one where it is the expert taken. -/
def bMask3 (s : Vec F S96x2048 .f32) (x9 : Vec F S8x96 .f32) : FVec F S1x2048 .bf16 := k0_pay16 (whole2048 s) (wholeGate x9)

/-- Expert 4's mask: one where it is the expert taken. -/
def bMask4 (s : Vec F S96x2048 .f32) (x9 : Vec F S8x96 .f32) : FVec F S1x2048 .bf16 := k0_pay19 (whole2048 s) (wholeGate x9)

/-- Expert 5's mask. -/
def bMask5 (s : Vec F S96x2048 .f32) (x9 : Vec F S8x96 .f32) : FVec F S1x2048 .bf16 :=
  k0_pay23 (bMax s x9) (bTaken4 s x9) (bLogit5 s x9)
/-- Expert 6's mask. -/
def bMask6 (s : Vec F S96x2048 .f32) (x9 : Vec F S8x96 .f32) : FVec F S1x2048 .bf16 :=
  k0_pay25 (bLogits s x9) (bMax s x9) (bTaken4 s x9) (bLogit5 s x9)
/-- Expert 7's mask. -/
def bMask7 (s : Vec F S96x2048 .f32) (x9 : Vec F S8x96 .f32) : FVec F S1x2048 .bf16 :=
  k0_pay26 (bLogits s x9) (bMax s x9) (bTaken4 s x9) (bLogit5 s x9)
/-- Half of what the first layer of the expert taken gives. -/
def bHalf (s : Vec F S96x2048 .f32) (x9 : Vec F S8x96 .f32) (x10 : Vec F S96x784 .bf16) : FVec F S96x2048 .f32 :=
  k0_pay29 (whole2048 s) (bLogits s x9) (bMax s x9) (bMask0 s x9) (bMask1 s x9) (bMask2 s x9) (bMask3 s x9) (bTaken4 s x9)
    (bMask4 s x9) (bLogit5 s x9) (whole784 x10)
/-- The error function of the first layer over √2. -/
def bErf (s : Vec F S96x2048 .f32) (x9 : Vec F S8x96 .f32) (x10 : Vec F S96x784 .bf16) : FVec F S96x2048 .f32 :=
  k0_pay30 (whole2048 s) (bLogits s x9) (bMax s x9) (bMask0 s x9) (bMask1 s x9) (bMask2 s x9) (bMask3 s x9) (bTaken4 s x9)
    (bMask4 s x9) (bLogit5 s x9) (whole784 x10)
/-- What the expert taken gives, at each of the block's positions. -/
def bExpert (s : Vec F S96x2048 .f32) (x9 : Vec F S8x96 .f32) (x10 x11 : Vec F S96x784 .bf16) : FVec F S96x2048 .f32 :=
  k0_pay32 (bMask0 s x9) (bMask1 s x9) (bMask2 s x9) (bMask3 s x9) (bMask4 s x9) (bMask5 s x9) (bMask6 s x9) (bMask7 s x9)
    k0_pay27 (bHalf s x9 x10) (bErf s x9 x10) k0_pay31 (whole784 x11)

/-- The output block: eight rows of the image, five from the expert outputs `y` of the point before, three from this
    point's own, scaled and added to the image's rows. -/
def bOut (s y : Vec F S96x2048 .f32) (x4 : Vec F S96x1792 .f32) (x9 : Vec F S8x96 .f32) (x10 x11 : Vec F S96x784 .bf16)
    (x12 : Vec F S96x1 .f32) : FVec F S96x1792 .f32 :=
  k0_pay33 (bMask0 s x9) (bMask1 s x9) (bMask2 s x9) (bMask3 s x9) (bMask4 s x9) (bMask5 s x9) (bMask6 s x9) (bMask7 s x9)
    k0_pay27 (bHalf s x9 x10) (bErf s x9 x10) k0_pay31 (whole784 x11)
    (View.ld y (Rect.unit (s := S96x2048) ![0, 771] S96x224.size inb_S96x2048_S96x224_0_771))
    (View.ld y (Rect.unit (s := S96x2048) ![0, 1027] S96x224.size inb_S96x2048_S96x224_0_1027))
    (View.ld y (Rect.unit (s := S96x2048) ![0, 1283] S96x224.size inb_S96x2048_S96x224_0_1283))
    (View.ld y (Rect.unit (s := S96x2048) ![0, 1539] S96x224.size inb_S96x2048_S96x224_0_1539))
    (View.ld y (Rect.unit (s := S96x2048) ![0, 1795] S96x224.size inb_S96x2048_S96x224_0_1795))
    (View.ld x4 (Rect.unit (s := S96x1792) ![0, 0] S96x1792.size inb_S96x1792_S96x1792_0_0)) (wholeCol x12)
/-- The expert outputs, as the point leaves them in `yp_s`. -/
def bKeep (s : Vec F S96x2048 .f32) (x9 : Vec F S8x96 .f32) (x10 x11 : Vec F S96x784 .bf16) : FVec F S96x2048 .f32 :=
  k0_pay34 (bExpert s x9 x10 x11)

/-- The three blocks' positions from `1277` of the first on, side by side: what column 0 of the taps reads. -/
def bWide0 (x1 x2 x3 : Vec F S96x2048 .bf16) : FVec F S96x3584 .bf16 := k0_pay35 (View.ld x1 (Rect.unit (s := S96x2048) ![0, 1277] S96x771.size inb_S96x2048_S96x771_0_1277)) (whole2048 x2) (View.ld x3 (Rect.unit (s := S96x2048) ![0, 0] S96x765.size inb_S96x2048_S96x765_0_0))

/-- The three blocks' positions from `1278` of the first on, side by side: what column 1 of the taps reads. -/
def bWide1 (x1 x2 x3 : Vec F S96x2048 .bf16) : FVec F S96x3584 .bf16 := k0_pay38 (View.ld x1 (Rect.unit (s := S96x2048) ![0, 1278] S96x770.size inb_S96x2048_S96x770_0_1278)) (whole2048 x2) (View.ld x3 (Rect.unit (s := S96x2048) ![0, 0] S96x766.size inb_S96x2048_S96x766_0_0))

/-- The three blocks' positions from `1279` of the first on, side by side: what column 2 of the taps reads. -/
def bWide2 (x1 x2 x3 : Vec F S96x2048 .bf16) : FVec F S96x3584 .bf16 := k0_pay41 (View.ld x1 (Rect.unit (s := S96x2048) ![0, 1279] S96x769.size inb_S96x2048_S96x769_0_1279)) (whole2048 x2) (View.ld x3 (Rect.unit (s := S96x2048) ![0, 0] S96x767.size inb_S96x2048_S96x767_0_0))

/-- The three blocks' positions from `1280` of the first on, side by side: what column 3 of the taps reads. -/
def bWide3 (x1 x2 x3 : Vec F S96x2048 .bf16) : FVec F S96x3584 .bf16 := k0_pay44 (View.ld x1 (Rect.unit (s := S96x2048) ![0, 1280] S96x768.size inb_S96x2048_S96x768_0_1280)) (whole2048 x2) (View.ld x3 (Rect.unit (s := S96x2048) ![0, 0] S96x768.size inb_S96x2048_S96x768_0_0))

/-- The three blocks' positions from `1281` of the first on, side by side: what column 4 of the taps reads. -/
def bWide4 (x1 x2 x3 : Vec F S96x2048 .bf16) : FVec F S96x3584 .bf16 := k0_pay47 (View.ld x1 (Rect.unit (s := S96x2048) ![0, 1281] S96x767.size inb_S96x2048_S96x767_0_1281)) (whole2048 x2) (View.ld x3 (Rect.unit (s := S96x2048) ![0, 0] S96x769.size inb_S96x2048_S96x769_0_0))

/-- The three blocks' positions from `1282` of the first on, side by side: what column 5 of the taps reads. -/
def bWide5 (x1 x2 x3 : Vec F S96x2048 .bf16) : FVec F S96x3584 .bf16 := k0_pay50 (View.ld x1 (Rect.unit (s := S96x2048) ![0, 1282] S96x766.size inb_S96x2048_S96x766_0_1282)) (whole2048 x2) (View.ld x3 (Rect.unit (s := S96x2048) ![0, 0] S96x770.size inb_S96x2048_S96x770_0_0))

/-- Column 0 of the taps: the sum over its seven rows. -/
def bCol0 (x1 x2 x3 : Vec F S96x2048 .bf16) (x5 : Vec F S96x56 .bf16) : FVec F S96x2048 .bf16 :=
  k0_pay37 (bWide0 x1 x2 x3)
    (k0_pay36 (View.ld x1 (Rect.unit (s := S96x2048) ![0, 1277] S96x771.size inb_S96x2048_S96x771_0_1277)) (whole2048 x2) (View.ld x3 (Rect.unit (s := S96x2048) ![0, 0] S96x765.size inb_S96x2048_S96x765_0_0))
      (View.ld x5 (Rect.unit (s := S96x56) ![0, 0] S96x1.size inb_S96x56_S96x1_0_0)) (View.ld x5 (Rect.unit (s := S96x56) ![0, 7] S96x1.size inb_S96x56_S96x1_0_7)) (View.ld x5 (Rect.unit (s := S96x56) ![0, 14] S96x1.size inb_S96x56_S96x1_0_14)) (View.ld x5 (Rect.unit (s := S96x56) ![0, 21] S96x1.size inb_S96x56_S96x1_0_21)) (View.ld x5 (Rect.unit (s := S96x56) ![0, 28] S96x1.size inb_S96x56_S96x1_0_28)))
    (View.ld x5 (Rect.unit (s := S96x56) ![0, 35] S96x1.size inb_S96x56_S96x1_0_35)) (View.ld x5 (Rect.unit (s := S96x56) ![0, 42] S96x1.size inb_S96x56_S96x1_0_42))

/-- Column 1 of the taps: the sum over its seven rows. -/
def bCol1 (x1 x2 x3 : Vec F S96x2048 .bf16) (x5 : Vec F S96x56 .bf16) : FVec F S96x2048 .bf16 :=
  k0_pay40 (bWide1 x1 x2 x3)
    (k0_pay39 (View.ld x1 (Rect.unit (s := S96x2048) ![0, 1278] S96x770.size inb_S96x2048_S96x770_0_1278)) (whole2048 x2) (View.ld x3 (Rect.unit (s := S96x2048) ![0, 0] S96x766.size inb_S96x2048_S96x766_0_0))
      (View.ld x5 (Rect.unit (s := S96x56) ![0, 1] S96x1.size inb_S96x56_S96x1_0_1)) (View.ld x5 (Rect.unit (s := S96x56) ![0, 8] S96x1.size inb_S96x56_S96x1_0_8)) (View.ld x5 (Rect.unit (s := S96x56) ![0, 15] S96x1.size inb_S96x56_S96x1_0_15)) (View.ld x5 (Rect.unit (s := S96x56) ![0, 22] S96x1.size inb_S96x56_S96x1_0_22)))
    (View.ld x5 (Rect.unit (s := S96x56) ![0, 29] S96x1.size inb_S96x56_S96x1_0_29)) (View.ld x5 (Rect.unit (s := S96x56) ![0, 36] S96x1.size inb_S96x56_S96x1_0_36)) (View.ld x5 (Rect.unit (s := S96x56) ![0, 43] S96x1.size inb_S96x56_S96x1_0_43))

/-- Column 2 of the taps: the sum over its seven rows. -/
def bCol2 (x1 x2 x3 : Vec F S96x2048 .bf16) (x5 : Vec F S96x56 .bf16) : FVec F S96x2048 .bf16 :=
  k0_pay43 (bWide2 x1 x2 x3)
    (k0_pay42 (View.ld x1 (Rect.unit (s := S96x2048) ![0, 1279] S96x769.size inb_S96x2048_S96x769_0_1279)) (whole2048 x2) (View.ld x3 (Rect.unit (s := S96x2048) ![0, 0] S96x767.size inb_S96x2048_S96x767_0_0))
      (View.ld x5 (Rect.unit (s := S96x56) ![0, 2] S96x1.size inb_S96x56_S96x1_0_2)) (View.ld x5 (Rect.unit (s := S96x56) ![0, 9] S96x1.size inb_S96x56_S96x1_0_9)) (View.ld x5 (Rect.unit (s := S96x56) ![0, 16] S96x1.size inb_S96x56_S96x1_0_16)))
    (View.ld x5 (Rect.unit (s := S96x56) ![0, 23] S96x1.size inb_S96x56_S96x1_0_23)) (View.ld x5 (Rect.unit (s := S96x56) ![0, 30] S96x1.size inb_S96x56_S96x1_0_30)) (View.ld x5 (Rect.unit (s := S96x56) ![0, 37] S96x1.size inb_S96x56_S96x1_0_37)) (View.ld x5 (Rect.unit (s := S96x56) ![0, 44] S96x1.size inb_S96x56_S96x1_0_44))

/-- Column 3 of the taps: the sum over its seven rows. -/
def bCol3 (x1 x2 x3 : Vec F S96x2048 .bf16) (x5 : Vec F S96x56 .bf16) : FVec F S96x2048 .bf16 :=
  k0_pay46 (bWide3 x1 x2 x3)
    (k0_pay45 (View.ld x1 (Rect.unit (s := S96x2048) ![0, 1280] S96x768.size inb_S96x2048_S96x768_0_1280)) (whole2048 x2) (View.ld x3 (Rect.unit (s := S96x2048) ![0, 0] S96x768.size inb_S96x2048_S96x768_0_0))
      (View.ld x5 (Rect.unit (s := S96x56) ![0, 3] S96x1.size inb_S96x56_S96x1_0_3)) (View.ld x5 (Rect.unit (s := S96x56) ![0, 10] S96x1.size inb_S96x56_S96x1_0_10)))
    (View.ld x5 (Rect.unit (s := S96x56) ![0, 17] S96x1.size inb_S96x56_S96x1_0_17)) (View.ld x5 (Rect.unit (s := S96x56) ![0, 24] S96x1.size inb_S96x56_S96x1_0_24)) (View.ld x5 (Rect.unit (s := S96x56) ![0, 31] S96x1.size inb_S96x56_S96x1_0_31)) (View.ld x5 (Rect.unit (s := S96x56) ![0, 38] S96x1.size inb_S96x56_S96x1_0_38)) (View.ld x5 (Rect.unit (s := S96x56) ![0, 45] S96x1.size inb_S96x56_S96x1_0_45))

/-- Column 4 of the taps: the sum over its seven rows. -/
def bCol4 (x1 x2 x3 : Vec F S96x2048 .bf16) (x5 : Vec F S96x56 .bf16) : FVec F S96x2048 .bf16 :=
  k0_pay49 (bWide4 x1 x2 x3)
    (k0_pay48 (View.ld x1 (Rect.unit (s := S96x2048) ![0, 1281] S96x767.size inb_S96x2048_S96x767_0_1281)) (whole2048 x2) (View.ld x3 (Rect.unit (s := S96x2048) ![0, 0] S96x769.size inb_S96x2048_S96x769_0_0))
      (View.ld x5 (Rect.unit (s := S96x56) ![0, 4] S96x1.size inb_S96x56_S96x1_0_4)))
    (View.ld x5 (Rect.unit (s := S96x56) ![0, 11] S96x1.size inb_S96x56_S96x1_0_11)) (View.ld x5 (Rect.unit (s := S96x56) ![0, 18] S96x1.size inb_S96x56_S96x1_0_18)) (View.ld x5 (Rect.unit (s := S96x56) ![0, 25] S96x1.size inb_S96x56_S96x1_0_25)) (View.ld x5 (Rect.unit (s := S96x56) ![0, 32] S96x1.size inb_S96x56_S96x1_0_32)) (View.ld x5 (Rect.unit (s := S96x56) ![0, 39] S96x1.size inb_S96x56_S96x1_0_39)) (View.ld x5 (Rect.unit (s := S96x56) ![0, 46] S96x1.size inb_S96x56_S96x1_0_46))

/-- Column 5 of the taps. -/
def bCol5 (x1 x2 x3 : Vec F S96x2048 .bf16) (x5 : Vec F S96x56 .bf16) : FVec F S96x2048 .bf16 :=
  k0_pay51 (bWide5 x1 x2 x3) (View.ld x5 (Rect.unit (s := S96x56) ![0, 5] S96x1.size inb_S96x56_S96x1_0_5)) (View.ld x5 (Rect.unit (s := S96x56) ![0, 12] S96x1.size inb_S96x56_S96x1_0_12)) (View.ld x5 (Rect.unit (s := S96x56) ![0, 19] S96x1.size inb_S96x56_S96x1_0_19)) (View.ld x5 (Rect.unit (s := S96x56) ![0, 26] S96x1.size inb_S96x56_S96x1_0_26)) (View.ld x5 (Rect.unit (s := S96x56) ![0, 33] S96x1.size inb_S96x56_S96x1_0_33)) (View.ld x5 (Rect.unit (s := S96x56) ![0, 40] S96x1.size inb_S96x56_S96x1_0_40)) (View.ld x5 (Rect.unit (s := S96x56) ![0, 47] S96x1.size inb_S96x56_S96x1_0_47))
/-- Column 6 of the taps, its first six rows. -/
def bCol6 (x1 x2 x3 : Vec F S96x2048 .bf16) (x5 : Vec F S96x56 .bf16) : FVec F S96x2048 .bf16 :=
  k0_pay54 (k0_pay52 (View.ld x1 (Rect.unit (s := S96x2048) ![0, 1283] S96x765.size inb_S96x2048_S96x765_0_1283))) (whole2048 x2) (View.ld x3 (Rect.unit (s := S96x2048) ![0, 0] S96x771.size inb_S96x2048_S96x771_0_0))
    (View.ld x5 (Rect.unit (s := S96x56) ![0, 6] S96x1.size inb_S96x56_S96x1_0_6)) (View.ld x5 (Rect.unit (s := S96x56) ![0, 13] S96x1.size inb_S96x56_S96x1_0_13)) (View.ld x5 (Rect.unit (s := S96x56) ![0, 20] S96x1.size inb_S96x56_S96x1_0_20)) (View.ld x5 (Rect.unit (s := S96x56) ![0, 27] S96x1.size inb_S96x56_S96x1_0_27)) (View.ld x5 (Rect.unit (s := S96x56) ![0, 34] S96x1.size inb_S96x56_S96x1_0_34)) (View.ld x5 (Rect.unit (s := S96x56) ![0, 41] S96x1.size inb_S96x56_S96x1_0_41))
/-- What column 6's last row reads. -/
def bLast (x1 x2 x3 : Vec F S96x2048 .bf16) : FVec F S96x2048 .bf16 := k0_pay55 (k0_pay52 (View.ld x1 (Rect.unit (s := S96x2048) ![0, 1283] S96x765.size inb_S96x2048_S96x765_0_1283))) (whole2048 x2) (View.ld x3 (Rect.unit (s := S96x2048) ![0, 0] S96x771.size inb_S96x2048_S96x771_0_0))
/-- The layer-normed convolution, as the point leaves it in `xln_s`. -/
def bNorm (x1 x2 x3 : Vec F S96x2048 .bf16) (x5 : Vec F S96x56 .bf16) (x6 x7 x8 : Vec F S96x1 .f32) : FVec F S96x2048 .f32 :=
  k0_pay1 (k0_pay57 (bCol0 x1 x2 x3 x5) (bCol1 x1 x2 x3 x5) (bCol2 x1 x2 x3 x5) (bCol3 x1 x2 x3 x5) (bCol4 x1 x2 x3 x5)
      (bCol5 x1 x2 x3 x5) (bCol6 x1 x2 x3 x5) (bLast x1 x2 x3) (k0_pay56 (View.ld x5 (Rect.unit (s := S96x56) ![0, 48] S96x1.size inb_S96x56_S96x1_0_48))) (wholeCol x6) (wholeCol x7))
    (k0_pay58 (wholeCol x8))

/-- A store of a whole `96 × 2048` block covers it. -/
theorem cover2048 (p : Vec F S96x2048 .f32) (j : S96x2048.Idx) :
    ∃ pc ∈ ([⟨Rect.unit (s := S96x2048) ![0, 0] S96x2048.size inb_S96x2048_S96x2048_0_0, p⟩] : List (View.Piece (Elt F) S96x2048 .f32)), j ∈ pc.1.set :=
  View.cover_of_tiled [⟨Rect.unit (s := S96x2048) ![0, 0] S96x2048.size inb_S96x2048_S96x2048_0_0, p⟩] S96x2048.size (by rfl) j

/-- A store of a whole `96 × 1792` block covers it. -/
theorem cover1792 (p : Vec F S96x1792 .f32) (j : S96x1792.Idx) :
    ∃ pc ∈ ([⟨Rect.unit (s := S96x1792) ![0, 0] S96x1792.size inb_S96x1792_S96x1792_0_0, p⟩] : List (View.Piece (Elt F) S96x1792 .f32)), j ∈ pc.1.set :=
  View.cover_of_tiled [⟨Rect.unit (s := S96x1792) ![0, 0] S96x1792.size inb_S96x1792_S96x1792_0_0, p⟩] S96x1792.size (by rfl) j

/-- The two zero offsets. -/
theorem hz2 : (![0, 0] : Fin 2 → Nat) = fun _ => 0 := funext fun a => by fin_cases a <;> rfl

set_option maxHeartbeats 2000000 in
/-- The body at one point: the input blocks end as found, the output block at `bOut`, the scratch blocks at `bNorm` and
    `bKeep`. -/
theorem sound_kernel (c : Dev nD) (E : Set ℕ) (i : grid0.Coords) (arg1 : Memref sig .tc .vmem S96x2048 .bf16) (harg1 : arg1.IsWhole) (arg2 : Memref sig .tc .vmem S96x2048 .bf16) (harg2 : arg2.IsWhole) (arg3 : Memref sig .tc .vmem S96x2048 .bf16) (harg3 : arg3.IsWhole) (arg4 : Memref sig .tc .vmem S96x1792 .f32) (harg4 : arg4.IsWhole) (arg5 : Memref sig .tc .vmem S96x56 .bf16) (harg5 : arg5.IsWhole) (arg6 : Memref sig .tc .vmem S96x1 .f32) (harg6 : arg6.IsWhole) (arg7 : Memref sig .tc .vmem S96x1 .f32) (harg7 : arg7.IsWhole) (arg8 : Memref sig .tc .vmem S96x1 .f32) (harg8 : arg8.IsWhole) (arg9 : Memref sig .tc .vmem S8x96 .f32) (harg9 : arg9.IsWhole) (arg10 : Memref sig .tc .vmem S96x784 .bf16) (harg10 : arg10.IsWhole) (arg11 : Memref sig .tc .vmem S96x784 .bf16) (harg11 : arg11.IsWhole) (arg12 : Memref sig .tc .vmem S96x1 .f32) (harg12 : arg12.IsWhole) (arg13 : Memref sig .tc .vmem S96x1792 .f32) (harg13 : arg13.IsWhole) (arg14 : Memref sig .tc .vmem S96x2048 .f32) (harg14 : arg14.IsWhole) (arg15 : Memref sig .tc .vmem S96x2048 .f32) (harg15 : arg15.IsWhole)
    (x1 : Vec F S96x2048 .bf16) (x2 : Vec F S96x2048 .bf16) (x3 : Vec F S96x2048 .bf16) (x4 : Vec F S96x1792 .f32) (x5 : Vec F S96x56 .bf16) (x6 : Vec F S96x1 .f32) (x7 : Vec F S96x1 .f32) (x8 : Vec F S96x1 .f32) (x9 : Vec F S8x96 .f32) (x10 : Vec F S96x784 .bf16) (x11 : Vec F S96x784 .bf16) (x12 : Vec F S96x1 .f32) (s y : Vec F S96x2048 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare s ∗ owns (c : Thread nD τ) arg15 fullShare y
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (bOut s y x4 x9 x10 x11 x12) ∗ owns (c : Thread nD τ) arg14 fullShare (bNorm x1 x2 x3 x5 x6 x7 x8) ∗ owns (c : Thread nD τ) arg15 fullShare (bKeep s x9 x10 x11)) -∗ K ⟨⟩))
    ⊢ wp frame (wpE (defs₀ (F := F)) Variants.none c none) E (cc0__moecn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__moecn_kernel_eq_skeleton]; unfold cc0__moecn_kernel_skel
  simp only [k0_part12_eq_skeleton]; unfold k0_part12_skel
  simp only [k0_part11_eq_skeleton]; unfold k0_part11_skel
  simp only [k0_part10_eq_skeleton]; unfold k0_part10_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
  subst hf1 hf2 hf3 hf4 hf5 hf6 hf7 hf8 hf9 hf10 hf11 hf12 hf14 hf15
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover1792 _)).trans ((View.canon_unit_zero hz2 _ _).trans ?_)
    dsimp only
    unfold bOut bMask0 bMask1 bMask2 bMask3 bMask4 bMask5 bMask6 bMask7 bHalf bErf bLogits bMax bTaken4 bLogit5
    rfl
  isplitl [H14]
  · iexists _; isplitr
    swap; · iexact H14
    ipureintro
    refine (View.read_writes_eq_canon _ _ _ (cover2048 _)).trans ((View.canon_unit_zero hz2 _ _).trans ?_)
    dsimp only
    unfold bNorm bCol0 bCol1 bCol2 bCol3 bCol4 bCol5 bCol6 bLast bWide0 bWide1 bWide2 bWide3 bWide4 bWide5
    rfl
  iexists _; isplitr
  swap; · iexact H15
  ipureintro
  refine (View.read_writes_eq_canon _ _ _ (cover2048 _)).trans ((View.canon_unit_zero hz2 _ _).trans ?_)
  dsimp only
  unfold bKeep bExpert bMask0 bMask1 bMask2 bMask3 bMask4 bMask5 bMask6 bMask7 bHalf bErf bLogits bMax bTaken4 bLogit5
  rfl

end Cert.KernelIdeal.Hand

end
-- ==== Proof.IdealPoints.lean ====
/-
  The thirty points of the grid. Between two points the kernel carries the layer-normed block of the point before and the
  expert outputs of the point before that; from point 2 on, what it stores in the output block is a function of the blocks
  of three points. This module states that invariant and proves the body's obligation at every point.
-/
module

public import proofs.«01_k».proof.Proof.IdealBody
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.DatRel
public import Idealize.ShloMosaic.Lib.Pipeline.ArrRel
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The layer-normed block that point `t` leaves. -/
def normAt (c : Dev nD) (t : Fin cfg0.N) : Vec F S96x2048 .f32 :=
  bNorm (iblk m c 0 t) (iblk m c 1 t) (iblk m c 2 t) (iblk m c 4 t) (iblk m c 5 t) (iblk m c 6 t) (iblk m c 7 t)

/-- The expert outputs that point `t` leaves when it finds the layer-normed block `s`. -/
def keepAt (c : Dev nD) (t : Fin cfg0.N) (s : Vec F S96x2048 .f32) : Vec F S96x2048 .f32 :=
  bKeep s (iblk m c 8 t) (iblk m c 9 t) (iblk m c 10 t)

/-- The output block that point `t` stores when it finds the layer-normed block `s` and the expert outputs `y`. -/
def outAt (c : Dev nD) (t : Fin cfg0.N) (s y : Vec F S96x2048 .f32) : Vec F S96x1792 .f32 :=
  bOut s y (iblk m c 3 t) (iblk m c 8 t) (iblk m c 9 t) (iblk m c 10 t) (iblk m c 11 t)

/-- What the two scratch blocks hold before point `n`: the layer-normed block of the point before, the expert outputs of
    the point before computed from the layer-normed block of the one before that. -/
def Carried (c : Dev nD) (n : ℕ) (s y : Vec F S96x2048 .f32) : Prop :=
  (∀ u : Fin cfg0.N, u.val + 1 = n → s = normAt m c u)
    ∧ ∀ u v : Fin cfg0.N, u.val + 1 = v.val → v.val + 1 = n → y = keepAt m c v (normAt m c u)

/-- What the body stores in the output block at point `t`: from the third point on, `outAt` of what the two points before
    left. -/
def Stored (c : Dev nD) : (w : Fin cfg0.W) → Fin cfg0.N → ((cfg0.win w).block.Idx → Elt F (cfg0.win w).elt) → Prop
  | ⟨12, _⟩ => fun t X => ∀ u v : Fin cfg0.N, u.val + 1 = v.val → v.val + 1 = t.val →
      X = outAt m c t (normAt m c v) (keepAt m c v (normAt m c u))
  | _ => fun _ _ => True

/-- The output window, the one whose contents are held to `Stored`. -/
def isOutW (w : Fin cfg0.W) : Bool := decide (w.val = 12)

/-- The invariant before point `n`: the two scratch blocks at contents that `Carried` allows, and the random state. -/
def inv (c : Dev nD) (n : ℕ) : sProp 𝕄 :=
  iprop(∃ s y, ⌜Carried m c n s y⌝ ∗ owns (c : Thread nD τ) (Memref.whole cc0_scratch0) fullShare s
    ∗ owns (c : Thread nD τ) (Memref.whole cc0_scratch1) fullShare y ∗ ∃ r, prngReg c r)

/-- The proof data: every input block left as found, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fun _ => Classical.arbitrary _
    | ⟨_ + 13, h⟩ => absurd h (Nat.not_lt.2 (Nat.le_add_left _ _))
  Φ n := inv m c n.val
  q w := Pipeline.shareOf spec0 w
  owed _ := 0

/-- What the window's array holds at launch. -/
theorem A_eq (c : Dev nD) (w : Fin cfg0.W) : (dats m 0 c).A w = V m c (Pipeline.arrRef spec0 w) := rfl

/-- A grid point leaves the block before the current one as read. -/
theorem after0_0 (c : Dev nD) (t : Fin cfg0.N) : (dats m 0 c).after 0 t = iblk m c 0 t := by dsimp only [dats]
/-- A grid point leaves the current block as read. -/
theorem after0_1 (c : Dev nD) (t : Fin cfg0.N) : (dats m 0 c).after 1 t = iblk m c 1 t := by dsimp only [dats]
/-- A grid point leaves the block after the current one as read. -/
theorem after0_2 (c : Dev nD) (t : Fin cfg0.N) : (dats m 0 c).after 2 t = iblk m c 2 t := by dsimp only [dats]
/-- A grid point leaves the image's block as read. -/
theorem after0_3 (c : Dev nD) (t : Fin cfg0.N) : (dats m 0 c).after 3 t = iblk m c 3 t := by dsimp only [dats]
/-- A grid point leaves the taps as read. -/
theorem after0_4 (c : Dev nD) (t : Fin cfg0.N) : (dats m 0 c).after 4 t = iblk m c 4 t := by dsimp only [dats]
/-- A grid point leaves the convolution's bias as read. -/
theorem after0_5 (c : Dev nD) (t : Fin cfg0.N) : (dats m 0 c).after 5 t = iblk m c 5 t := by dsimp only [dats]
/-- A grid point leaves the norm's gain as read. -/
theorem after0_6 (c : Dev nD) (t : Fin cfg0.N) : (dats m 0 c).after 6 t = iblk m c 6 t := by dsimp only [dats]
/-- A grid point leaves the norm's shift as read. -/
theorem after0_7 (c : Dev nD) (t : Fin cfg0.N) : (dats m 0 c).after 7 t = iblk m c 7 t := by dsimp only [dats]
/-- A grid point leaves the gates as read. -/
theorem after0_8 (c : Dev nD) (t : Fin cfg0.N) : (dats m 0 c).after 8 t = iblk m c 8 t := by dsimp only [dats]
/-- A grid point leaves the stacked first weights as read. -/
theorem after0_9 (c : Dev nD) (t : Fin cfg0.N) : (dats m 0 c).after 9 t = iblk m c 9 t := by dsimp only [dats]
/-- A grid point leaves the stacked second weights as read. -/
theorem after0_10 (c : Dev nD) (t : Fin cfg0.N) : (dats m 0 c).after 10 t = iblk m c 10 t := by dsimp only [dats]
/-- A grid point leaves the last scale as read. -/
theorem after0_11 (c : Dev nD) (t : Fin cfg0.N) : (dats m 0 c).after 11 t = iblk m c 11 t := by dsimp only [dats]

/-- A grid point finds the block before the current one in its window. -/
theorem before0_0 (c : Dev nD) (t : Fin cfg0.N) (d) : (dats m 0 c).before 0 t d = iblk m c 0 t :=
  before0_0_of m (dats m 0 c) (A_eq m c 0) (after0_0 m c) t d
/-- A grid point finds the current block in its window. -/
theorem before0_1 (c : Dev nD) (t : Fin cfg0.N) (d) : (dats m 0 c).before 1 t d = iblk m c 1 t :=
  before0_1_of m (dats m 0 c) (A_eq m c 1) (after0_1 m c) t d
/-- A grid point finds the block after the current one in its window. -/
theorem before0_2 (c : Dev nD) (t : Fin cfg0.N) (d) : (dats m 0 c).before 2 t d = iblk m c 2 t :=
  before0_2_of m (dats m 0 c) (A_eq m c 2) (after0_2 m c) t d
/-- A grid point finds the image's block in its window. -/
theorem before0_3 (c : Dev nD) (t : Fin cfg0.N) (d) : (dats m 0 c).before 3 t d = iblk m c 3 t :=
  before0_3_of m (dats m 0 c) (A_eq m c 3) (after0_3 m c) t d
/-- A grid point finds the taps in its window. -/
theorem before0_4 (c : Dev nD) (t : Fin cfg0.N) (d) : (dats m 0 c).before 4 t d = iblk m c 4 t :=
  before0_4_of m (dats m 0 c) (A_eq m c 4) (after0_4 m c) t d
/-- A grid point finds the convolution's bias in its window. -/
theorem before0_5 (c : Dev nD) (t : Fin cfg0.N) (d) : (dats m 0 c).before 5 t d = iblk m c 5 t :=
  before0_5_of m (dats m 0 c) (A_eq m c 5) (after0_5 m c) t d
/-- A grid point finds the norm's gain in its window. -/
theorem before0_6 (c : Dev nD) (t : Fin cfg0.N) (d) : (dats m 0 c).before 6 t d = iblk m c 6 t :=
  before0_6_of m (dats m 0 c) (A_eq m c 6) (after0_6 m c) t d
/-- A grid point finds the norm's shift in its window. -/
theorem before0_7 (c : Dev nD) (t : Fin cfg0.N) (d) : (dats m 0 c).before 7 t d = iblk m c 7 t :=
  before0_7_of m (dats m 0 c) (A_eq m c 7) (after0_7 m c) t d
/-- A grid point finds the gates in its window. -/
theorem before0_8 (c : Dev nD) (t : Fin cfg0.N) (d) : (dats m 0 c).before 8 t d = iblk m c 8 t :=
  before0_8_of m (dats m 0 c) (A_eq m c 8) (after0_8 m c) t d
/-- A grid point finds the stacked first weights in its window. -/
theorem before0_9 (c : Dev nD) (t : Fin cfg0.N) (d) : (dats m 0 c).before 9 t d = iblk m c 9 t :=
  before0_9_of m (dats m 0 c) (A_eq m c 9) (after0_9 m c) t d
/-- A grid point finds the stacked second weights in its window. -/
theorem before0_10 (c : Dev nD) (t : Fin cfg0.N) (d) : (dats m 0 c).before 10 t d = iblk m c 10 t :=
  before0_10_of m (dats m 0 c) (A_eq m c 10) (after0_10 m c) t d
/-- A grid point finds the last scale in its window. -/
theorem before0_11 (c : Dev nD) (t : Fin cfg0.N) (d) : (dats m 0 c).before 11 t d = iblk m c 11 t :=
  before0_11_of m (dats m 0 c) (A_eq m c 11) (after0_11 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ Y, ⌜((dats m 0 c).toRRel isOutW (Stored m c)).Finds 12 t Y⌝ ∗ owns (c : Thread nD τ) (st0_12 t) fullShare Y))

/-- What the body hands back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, ⌜Stored m c 12 t X⌝ ∗ owns (c : Thread nD τ) (st0_12 t) fullShare X))

/-- What a point leaves in the scratch blocks is what the next one may find there. -/
theorem carried_succ (c : Dev nD) (t : Fin cfg0.N) (s y : Vec F S96x2048 .f32) (h : Carried m c t.val s y) :
    Carried m c (t.val + 1) (normAt m c t) (keepAt m c t s) := by
  refine ⟨fun u hu => ?_, fun u v huv hv => ?_⟩
  · rw [show u = t from Fin.ext (by omega)]
  · obtain rfl : v = t := Fin.ext (by omega)
    rw [h.1 u huv]

/-- What a point stores in the output block is as `Stored` says. -/
theorem stored_of (c : Dev nD) (t : Fin cfg0.N) (s y : Vec F S96x2048 .f32) (h : Carried m c t.val s y) :
    Stored m c 12 t (outAt m c t s y) := by
  intro u v huv hv
  rw [← h.1 v hv, ← h.2 u v huv hv]

/-- The body at point `t` runs from what it is handed to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4, after0_5, after0_6, after0_7, after0_8, after0_9, after0_10, after0_11]
  unfold inv
  iintro ⟨⟨%s, %y, %hC, HS, HY, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, -, H12⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s y _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexact HS
  isplitl [HY]; · iexact HY
  iintro ⟨H0, H1, H2, H3, H4, H5, H6, H7, H8, H9, H10, H11, H12, HS, HY⟩
  isplitl [HS HY HR]
  · iexists (normAt m c t), (keepAt m c t s)
    isplitr; · ipureintro; exact carried_succ m c t s y hC
    isplitl [HS]; · iexact HS
    isplitl [HY]; · iexact HY
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists (outAt m c t s y)
  isplitr; · ipureintro; exact stored_of m c t s y hC
  iexact H12

/-- The body's obligation at every point. -/
theorem body_obligation (c : Dev nD) :
    Pipeline.BodyObligationRel (dats (F := F) m 0 c) (defs₀ (F := F)) Variants.none () Set.univ isOutW (Stored m c) := fun t => by
  rw [bigSep_W0, bigSep_W0]
  exact sound_body m c t

end Cert.KernelIdeal.Hand

end
-- ==== Proof.TailRun.lean ====
/-
  The run of a program of which one region is a pipeline and whose last lines are host lines reading the arrays the region
  leaves, with what those lines write stated too: every buffer outside the region ends holding what the last lines compute
  from arrays that the region may leave. The set-up of the launch is the one that the library's runs of a pipeline between
  host lines have.
-/
module

public import Idealize.ShloMosaic.Lib.Pipeline.FrameSuffix

@[expose] public section

noncomputable section

namespace Cert.TailRun

open Idealize.ShloMosaic Idealize.ShloMosaic.TcCoe Idealize.ShloMosaic.Pipeline Idealize.ShloMosaic.Rounds
open Idealize.SL Idealize.SL.RA
open Idealize.SL.BI (sProp bigSep)
open scoped Idealize.SL.BI
open Idealize.SL.BI.BIBase Idealize.SL.BI.Laws Idealize.SL.Sem Idealize.SL.ProofMode

variable {nD : Nat} {τ : Topo} {sig : RefSig} {Val : EltTy → Type} {Λ₀ : Idealize.SL.Sem.Labels}

local notation "𝕄" => MT nD τ sig Unit Val ℕ (UR sig nD τ) ℕ

section Arrays

variable {cfg : Cfg sig Λ₀} {c : Dev nD} (rd : RDat τ Val Unit ℕ (UR sig nD τ) ℕ cfg c)

/-- Contents of a pipeline's arrays, one buffer per window. -/
abbrev Contents (cfg : Cfg sig Λ₀) (c : Dev nD) : Type :=
  (w : Fin cfg.W) → Buf Val ((cfg.spec w).arr.view.loc (c.tc : Thread nD τ))

/-- The arrays after the last write-back are the arrays at some contents that they may hold then. -/
theorem arrays_some [∀ e, Nonempty (Val e)] :
    (rd.arraysAt cfg.N : sProp 𝕄) ⊢ iprop(∃ A : Contents cfg c, ⌜∀ w, rd.ArrAt w cfg.N (A w)⌝ ∗ rd.arrays A) := by
  unfold RDat.arraysAt RDat.arrays
  iintro H
  ihave H1 := (BI.bigSep_exists_pi Finset.univ fun w G => iprop(⌜rd.ArrAt w cfg.N G⌝
      ∗ ((cfg.win w).arr.view.loc (c.tc : Thread nD τ) ↦[(cfg.win w).arr.view.set]{rd.share w} G))) $$ H
  icases H1 with ⟨%A, H1⟩
  ihave H2 := (BI.bigSep_pure_sep Finset.univ (fun w => rd.ArrAt w cfg.N (A w)) fun w =>
      ((cfg.win w).arr.view.loc (c.tc : Thread nD τ) ↦[(cfg.win w).arr.view.set]{rd.share w} A w)) $$ H1
  icases H2 with ⟨%hA, H2⟩
  iexists A
  isplitr
  · ipureintro; exact fun w => hA w (Finset.mem_univ w)
  iexact H2

/-- The arrays at contents that they may hold after the last write-back are the arrays then. -/
theorem arrays_back (A : Contents cfg c) (hA : ∀ w, rd.ArrAt w cfg.N (A w)) :
    (rd.arrays A : sProp 𝕄) ⊢ rd.arraysAt cfg.N := by
  unfold RDat.arraysAt RDat.arrays
  refine BI.bigSep_mono fun w _ => ?_
  show ((cfg.win w).arr.view.loc (c.tc : Thread nD τ) ↦[(cfg.win w).arr.view.set]{rd.share w} A w : sProp 𝕄)
    ⊢ iprop(∃ G, ⌜rd.ArrAt w cfg.N G⌝
      ∗ ((cfg.win w).arr.view.loc (c.tc : Thread nD τ) ↦[(cfg.win w).arr.view.set]{rd.share w} G))
  iintro H
  iexists (A w)
  isplitr
  · ipureintro; exact hA w
  iexact H

/-- What the host lines `opss` may leave in the buffers outside the region: what they compute from arrays that the region
    may leave. -/
def Tail (V : Valuation τ sig Val) (opss : List (List (HloOp τ sig Val))) (refs : Finset (Ref sig .tc))
    (G : (b : Ref sig .tc) → Buf Val ((c.tc : Thread nD τ).loc b)) : Prop :=
  ∃ A : Contents cfg c, (∀ w, rd.ArrAt w cfg.N (A w))
    ∧ ∀ b ∈ refs, G b = StableHlo.after opss.flatten (withArrays cfg.spec c V A) (Proc.devRef .tc b)

/-- A buffer outside the region which the last lines do not write keeps what it held when the region was entered. -/
theorem Tail.keeps {V : Valuation τ sig Val} {opss : List (List (HloOp τ sig Val))} {pre : Prefetch sig}
    {T : Finset (Ref sig .tc)} {G : (b : Ref sig .tc) → Buf Val ((c.tc : Thread nD τ).loc b)}
    (hT : ∀ ops ∈ opss, ∀ op ∈ ops, ∀ b : Ref sig .tc, Proc.devRef .tc b ∈ op.writes → b ∈ T)
    (h : Tail rd V opss (restRefsP sig pre cfg.spec) G) :
    ∀ b ∈ restRefsP sig pre cfg.spec \ T, G b = V (Proc.devRef .tc b) := by
  classical
  obtain ⟨A, -, hG⟩ := h
  intro b hb
  obtain ⟨hrest, hbT⟩ := Finset.mem_sdiff.mp hb
  rw [hG b hrest, StableHlo.after_of_forall_not_mem]
  · refine withArrays_of_ne cfg.spec c _ A b fun w e => ?_
    exact (Finset.mem_sdiff.mp (Finset.mem_sdiff.mp hrest).1).2 (Finset.mem_image.mpr ⟨w, Finset.mem_univ _, e⟩)
  · intro op hop hw
    obtain ⟨ops, hops, hin⟩ := List.mem_flatten.mp hop
    exact hbT (hT ops hops op hin b hw)

end Arrays

variable {P : Type} [Fintype P] [DecidableEq P] [∀ e, Nonempty (Val e)]
variable (pcs : P → PCfg sig Λ₀ Val) (a : (p : P) → (pcs p).Adm) (p : P)
  (kit : PLaunchFacts₀ (nD := nD) (τ := τ) pcs p) (defs₀ : Defs nD τ sig Val Λ₀) (𝒱₀ : Variants)

local notation "cfg" => pin pcs a p
local notation "𝔻" => Pipeline.defs pcs defs₀
local notation "𝕍" => Variants.lift 𝒱₀

/-- The buffers outside the region at contents that the last lines may leave. -/
def tailRest (rdat : (c : Dev nD) → RDat τ Val Unit ℕ (UR sig nD τ) ℕ (cfg) c) (V₀ : Dev nD → Valuation τ sig Val)
    (opss : List (List (HloOp τ sig Val))) (c : Dev nD) : sProp 𝕄 :=
  iprop(∃ G : (b : Ref sig .tc) → Buf Val ((c.tc : Thread nD τ).loc b),
    ⌜Tail (rdat c) (V₀ c) opss (restRefsP sig (pcs p).pre (cfg).spec) G⌝
      ∗ unscopedRestP (Ix := Unit) (Name := ℕ) (U := UR sig nD τ) (Lvl := ℕ) (pcs p).pre (cfg).spec c G)

include kit in
/-- The last lines run from what the region leaves to `tailRest`, the arrays handed back. -/
theorem tail_runs (rdat : (c : Dev nD) → RDat τ Val Unit ℕ (UR sig nD τ) ℕ (cfg) c)
    (hq : ∀ c w, ((cfg).spec w).isOut = false → (rdat c).q w = shareOf (cfg).spec w)
    (V₀ : Dev nD → Valuation τ sig Val) (opss : List (List (HloOp τ sig Val)))
    (hsub : ∀ ops ∈ opss, ∀ op ∈ ops, op.bufs ⊆ tailRefs sig (pcs p).pre (cfg).spec)
    (hfresh : ∀ ops ∈ opss, ∀ op ∈ ops, op.fresh = ∅)
    (hkeep : ∀ ops ∈ opss, ∀ op ∈ ops, ∀ w, Proc.devRef .tc (arrRef (cfg).spec w) ∉ op.writes)
    (hA : ∀ c w, (rdat c).A w = V₀ c (Proc.devRef .tc (arrRef (cfg).spec w))) (c : Dev nD) (Q : PUnit → sProp 𝕄) :
    iprop((iprop(boundary (c.tc : Thread nD τ) ∗ (rdat c).arraysAt (cfg).N ∗ tailRest pcs a p rdat V₀ opss c) -∗ Q ⟨⟩)
        ∗ boundary (c.tc : Thread nD τ) ∗ (rdat c).arraysAt (cfg).N
        ∗ unscopedRestP (pcs p).pre (cfg).spec c (fun b => V₀ c (Proc.devRef .tc b)))
      ⊢ wp frame (wpE 𝔻 𝕍 (c.tc : Thread nD τ) none) Set.univ (chain (opss.map StableHlo.seq)) Q := by
  iintro ⟨Hk, Hb, Ha, Hr⟩
  ihave H1 := (arrays_some (rdat c)) $$ Ha
  icases H1 with ⟨%A, %hArr, H1⟩
  have hbufs : (rdat c).arrays A = arrBufs (cfg).spec c fun b => withArrays (cfg).spec c (V₀ c) A (Proc.devRef .tc b) :=
    ((rdat c).arrBufs_eq_arrays kit.sharedIn kit.arr_whole (hq c) _ A fun w =>
      (withArrays_arr_shared (cfg).spec c (V₀ c) A
        ((rdat c).ArrAt_sharedIn kit.sharedIn (V₀ c) (hA c) (cfg).N A hArr) w).symm).symm
  iapply (tail_seqs_bufs_b pcs defs₀ 𝒱₀ (pcs p).pre (cfg).spec c (V₀ c) A opss hsub hfresh hkeep Q)
  isplitl [Hk]
  · iintro ⟨Hb, Ha, Hr⟩
    iapply Hk
    isplitl [Hb]; · iexact Hb
    isplitl [Ha]
    · iapply (arrays_back (rdat c) A hArr)
      iapply (Entails.of_eq hbufs.symm)
      iexact Ha
    unfold tailRest
    iexists (fun b => StableHlo.after opss.flatten (withArrays (cfg).spec c (V₀ c) A) (Proc.devRef .tc b))
    isplitr
    · ipureintro; exact ⟨A, hArr, fun _ _ => rfl⟩
    iexact Hr
  isplitl [Hb]; · iexact Hb
  isplitl [H1]; · iapply (Entails.of_eq hbufs); iexact H1
  iexact Hr

include kit in
/-- THE RUN: the program ends with the semaphores at zero; on each core the arrays are at contents that they may hold,
    and the buffers outside the region at what the last lines compute from such contents. -/
theorem run_with_tail (rdat : (c : Dev nD) → RDat τ Val Unit ℕ (UR sig nD τ) ℕ (cfg) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((cfg).spec w).isOut = false → (rdat c).q w = shareOf (cfg).spec w)
    (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (cfg).spec)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (cfg).spec w)))
    (hpf : ∀ c k, V₀ c (Proc.devRef .tc ((pcs p).pre.ref k)) = (a p).1 k)
    (hin : ∀ c, ΦA (cfg).spec c ⊢ (rdat c).Φ 0)
    (hout : ∀ c, (rdat c).Φ (Fin.last (cfg).N) ⊢ ΦA (cfg).spec c) :
    θ_run 𝔻 (onTc main) (s₀ m g) (fun r => (∀ c : Dev nD,
      (∀ w, (rdat c).ArrAt w (cfg).N (r.2.mem (((cfg).spec w).arr.view.loc (c.tc : Thread nD τ))))
        ∧ Tail (rdat c) (V₀ c) opss (restRefsP sig (pcs p).pre (cfg).spec) (fun b => r.2.mem ((c.tc : Thread nD τ).loc b)))
      ∧ r.2.sem = (fun _ => 0)) := by
  classical
  exact RDat.θ_run_region_pf_tail_quiescent pcs a (RDat.familyOf pcs a p rdat) () (kit.cellOf_inj a) p kit.win
    (OwnSemFacts.none (cfg).spec) kit.pre emb₁ defs₀ 𝒱₀ m g main (fun _ => chain (opss.map StableHlo.seq))
    (fun c => by rw [RDat.familyOf_self]; exact hbody c) kit.block_pos kit.arr_whole kit.stage_whole
    (fun c t => by rw [RDat.familyOf_self]; exact howed c t)
    (G := fun _ => iprop(emp)) (u₀ := initOf (cells (pin pcs a) (kit.cellOf_inj a)) (launchToks (pin pcs a) (kit.cellOf_inj a)))
    (hu₀ := by
      iintro H
      imodintro
      isplitl [H]
      · iapply (show (ownU _ : sProp 𝕄)
          ⊢ BI.own (emb₁ (initOf (cells (pin pcs a) (kit.cellOf_inj a)) (launchToks (pin pcs a) (kit.cellOf_inj a)))) from .rfl)
        iexact H
      · iapply (show (BI.emp : sProp 𝕄) ⊢ bigSep Finset.univ (fun _ : Dev nD => (BI.emp : sProp 𝕄)) from by
          rw [BI.bigSep_emp_const])
        iempintro)
    (V := fun c b => V₀ c (Proc.devRef .tc b)) (hmain := hmain)
    (hsplit := fun c => by
      rw [RDat.familyOf_self]
      exact (rdat c).arrays_split_shared kit.sharedIn kit.arr_whole (hq c) _ _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (cfg).spec c
      (fun b => V₀ c (Proc.devRef .tc b)))
    (Z' := tailRest pcs a p rdat V₀ opss)
    (hX := fun c => by
      iintro ⟨Hu, -, -, Hp, -⟩
      imodintro
      isplitl [Hp]
      · iexists _; iexact Hp
      · iexact Hu)
    (hin := fun c => by
      rw [RDat.familyOf_self]
      refine Entails.trans ?_ (hin c)
      unfold ΦA
      iintro ⟨Hp, -, Hr⟩
      isplitl [Hr]
      · iexact Hr
      · iexact Hp)
    (hout := fun c => by
      rw [RDat.familyOf_self]
      refine (hout c).trans ?_
      rw [ownSems0_none]
      unfold ΦA
      iintro ⟨Hr, Hp⟩
      isplitl [Hp]; · iexact Hp
      isplitr; · iempintro
      iexact Hr)
    (htail := fun c Q => by
      rw [RDat.familyOf_self]
      exact tail_runs pcs a p kit defs₀ 𝒱₀ rdat hq V₀ opss hsub hfresh hkeep hA c Q)
    (QY := fun c s => Tail (rdat c) (V₀ c) opss (restRefsP sig (pcs p).pre (cfg).spec) (fun b => s.mem ((c.tc : Thread nD τ).loc b)))
    (hY := fun c s => by
      unfold tailRest unscopedRestP
      iintro ⟨-, ⟨%G, %hG, HZ⟩, HS⟩
      ihave H := (pointsTo_read_all (restRefsP sig (pcs p).pre (cfg).spec) (fun b => (c.tc : Thread nD τ).loc b) G s) $$ [HZ HS]
      · isplitl [HZ] <;> iassumption
      icases H with ⟨%hread, HS⟩
      imodintro
      isplitr
      · ipureintro
        obtain ⟨A, hArr, hA'⟩ := hG
        exact ⟨A, hArr, fun b hb => (hread b hb).trans (hA' b hb)⟩
      · iexact HS)
    (hQ := fun s h hz => ⟨fun c => ⟨fun w => by simpa only [RDat.familyOf_self] using (h c).1 w, (h c).2.2⟩, hz⟩)

end Cert.TailRun

end
-- ==== Proof.IdealRun.lean ====
/-
  The run of the kernel: it terminates, its arguments end unchanged, the semaphores end at zero, and its result is what
  the last host line computes from an array whose blocks are as `Stored` says.
-/
module

public import proofs.«01_k».proof.Proof.IdealPoints
public import proofs.«01_k».proof.Proof.TailRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailRun (Tail Contents run_with_tail)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data with the output window held to `Stored`. -/
abbrev rdat (c : Dev nD) : Pipeline.RDat τ (Elt F) Unit ℕ (UR sig nD τ) ℕ cfg0 c := (dats m 0 c).toRRel isOutW (Stored m c)

/-- The scratch blocks at any contents are the invariant before the first point. -/
theorem inv_zero (c : Dev nD) : (Pipeline.ΦA spec0 c : sProp 𝕄) ⊢ inv m c 0 := by
  unfold Pipeline.ΦA inv
  rw [scopedRest0_eq]
  iintro ⟨⟨⟨%f, H0⟩, ⟨%f', H1⟩⟩, Hp⟩
  iexists f, f'
  isplitr; · ipureintro; exact ⟨fun u hu => absurd hu (Nat.succ_ne_zero _), fun u v _ hv => absurd hv (Nat.succ_ne_zero _)⟩
  rw [owns_whole, owns_whole]
  isplitl [H0]; · iexact H0
  isplitl [H1]; · iexact H1
  iexact Hp

/-- The invariant after the last point gives the scratch blocks back. -/
theorem inv_last (c : Dev nD) (n : ℕ) : inv m c n ⊢ (Pipeline.ΦA spec0 c : sProp 𝕄) := by
  unfold Pipeline.ΦA inv
  rw [scopedRest0_eq]
  iintro ⟨%f, %f', -, H0, H1, Hp⟩
  isplitl [H0 H1]
  · isplitl [H0]
    · iexists f; iapply (Entails.of_eq (owns_whole (c : Thread nD τ) cc0_scratch0 fullShare f)); iexact H0
    · iexists f'; iapply (Entails.of_eq (owns_whole (c : Thread nD τ) cc0_scratch1 fullShare f')); iexact H1
  iexact Hp

/-- The last host line writes the result only. -/
theorem tail_writes : ∀ ops ∈ ([hostOps1] : List (List (HloOp τ sig (Elt F)))), ∀ op ∈ ops, ∀ b : Ref sig .tc,
    Proc.devRef .tc b ∈ op.writes → b ∈ ({main_v25} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective (τ := τ) _ hb)

set_option backward.isDefEq.respectTransparency.types false in
/-- The run, in the library's terms. -/
theorem run_raw : θ_run defs (onTc (τ := τ) (main (F := F))) (s₀ m ρ) (fun r => (∀ c : Dev nD,
      (∀ w, (rdat m c).ArrAt w cfg0.N (r.2.mem ((spec0 w).arr.view.loc (c.tc : Thread nD τ))))
        ∧ Tail (rdat m c) (V0 m c) [hostOps1] (Pipeline.restRefsP sig Pipeline.Prefetch.none spec0)
            (fun b => r.2.mem ((c.tc : Thread nD τ).loc b)))
      ∧ r.2.sem = (fun _ => 0)) :=
  run_with_tail (fun q => (cfgs q).toPCfg (Val := Elt F)) (fun q => (cfgs q).toPCfg_adm) 0 launch₀0.toP defs₀ Variants.none
    (rdat m) m ρ main (fun c => (body_obligation m c).toRRel) (fun _ _ _ => rfl) (fun _ _ => rfl) (V0 m) [hostOps1]
    sfx_sub sfx_fresh sfx_keeps (hmain m Variants.none) (fun _ _ => rfl) (fun _ k => k.elim0)
    (fun c => inv_zero m c) (fun c => inv_last m c _)

/-- A buffer outside the region. -/
theorem mem_rest (b : Ref sig .tc) (hs : b.isScoped = false) (ha : ∀ w, (spec0 w).arr.view.ref ≠ b) :
    b ∈ Pipeline.restRefsP sig Pipeline.Prefetch.none spec0 := by
  classical
  refine Finset.mem_sdiff.mpr ⟨Pipeline.mem_restRefs_of b hs ha, ?_⟩
  rintro h
  obtain ⟨k, -, -⟩ := Finset.mem_image.mp h
  exact k.elim0

/-- THE RUN: it terminates with the arguments unchanged, the semaphores at zero, and the result at what the last host line
    computes from arrays that the region may leave. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ ∃ A : Contents (Val := Elt F) cfg0 c, (∀ w, (rdat m c).ArrAt w cfg0.N (A w))
          ∧ r.2.mem ((c.tc : Thread nD τ).loc main_v25)
            = StableHlo.after [hostOps1].flatten (Pipeline.withArrays spec0 c (V0 m c) A) (Proc.devRef .tc main_v25))
      ∧ r.2.sem = (fun _ => 0)) := by
  classical
  refine (θ_run defs _ _).mono ?_ (run_raw m ρ)
  rintro r ⟨h, hs⟩
  refine ⟨fun c => ?_, hs⟩
  have keep : ∀ b : Ref sig .tc, b.isScoped = false → (∀ w, (spec0 w).arr.view.ref ≠ b) → b ≠ main_v25 →
      r.2.mem ((c.tc : Thread nD τ).loc b) = V m c b := fun b hb ha hne =>
    Tail.keeps (rdat m c) tail_writes (h c).2 b (Finset.mem_sdiff.mpr ⟨mem_rest b hb ha, by simpa using hne⟩)
  refine ⟨⟨(keep main_arg0 (by decide) (by decide) (by decide)).trans (V_main_arg0 m c),
    (keep main_arg1 (by decide) (by decide) (by decide)).trans (V_main_arg1 m c),
    (keep main_arg2 (by decide) (by decide) (by decide)).trans (V_main_arg2 m c),
    (keep main_arg3 (by decide) (by decide) (by decide)).trans (V_main_arg3 m c),
    (keep main_arg4 (by decide) (by decide) (by decide)).trans (V_main_arg4 m c),
    ?_,
    (keep main_arg6 (by decide) (by decide) (by decide)).trans (V_main_arg6 m c),
    (keep main_arg7 (by decide) (by decide) (by decide)).trans (V_main_arg7 m c),
    (keep main_arg8 (by decide) (by decide) (by decide)).trans (V_main_arg8 m c),
    (keep main_arg9 (by decide) (by decide) (by decide)).trans (V_main_arg9 m c),
    (keep main_arg10 (by decide) (by decide) (by decide)).trans (V_main_arg10 m c)⟩, ?_⟩
  · have h8 := (h c).1 8
    rw [(rdat m c).ArrAt_in 8 rfl] at h8
    exact h8.trans (V_main_arg5 m c)
  · obtain ⟨A, hA, hb⟩ := (h c).2
    exact ⟨A, hA, hb main_v25 (mem_rest main_v25 (by decide) (by decide))⟩

end Cert.KernelIdeal.Hand

end
-- ==== Proof.BitsRun.lean ====
/-
  The kernel's body at the machine's number formats, run: at any contents of the output block and of the two scratch
  blocks it terminates and leaves the twelve input blocks as found. And from it the run of the whole program: the arguments
  end unchanged, the semaphores at zero.
-/
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameSuffix

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at one point: the input blocks end as found, the output and scratch blocks at some contents. -/
theorem sound_kernel (c : Dev nD) (E : Set ℕ) (i : grid0.Coords) (arg1 : Memref sig .tc .vmem S96x2048 .bf16) (harg1 : arg1.IsWhole) (arg2 : Memref sig .tc .vmem S96x2048 .bf16) (harg2 : arg2.IsWhole) (arg3 : Memref sig .tc .vmem S96x2048 .bf16) (harg3 : arg3.IsWhole) (arg4 : Memref sig .tc .vmem S96x1792 .f32) (harg4 : arg4.IsWhole) (arg5 : Memref sig .tc .vmem S96x56 .bf16) (harg5 : arg5.IsWhole) (arg6 : Memref sig .tc .vmem S96x1 .f32) (harg6 : arg6.IsWhole) (arg7 : Memref sig .tc .vmem S96x1 .f32) (harg7 : arg7.IsWhole) (arg8 : Memref sig .tc .vmem S96x1 .f32) (harg8 : arg8.IsWhole) (arg9 : Memref sig .tc .vmem S8x96 .f32) (harg9 : arg9.IsWhole) (arg10 : Memref sig .tc .vmem S96x784 .bf16) (harg10 : arg10.IsWhole) (arg11 : Memref sig .tc .vmem S96x784 .bf16) (harg11 : arg11.IsWhole) (arg12 : Memref sig .tc .vmem S96x1 .f32) (harg12 : arg12.IsWhole) (arg13 : Memref sig .tc .vmem S96x1792 .f32) (harg13 : arg13.IsWhole) (arg14 : Memref sig .tc .vmem S96x2048 .f32) (harg14 : arg14.IsWhole) (arg15 : Memref sig .tc .vmem S96x2048 .f32) (harg15 : arg15.IsWhole)
    (x1 : Vec F S96x2048 .bf16) (x2 : Vec F S96x2048 .bf16) (x3 : Vec F S96x2048 .bf16) (x4 : Vec F S96x1792 .f32) (x5 : Vec F S96x56 .bf16) (x6 : Vec F S96x1 .f32) (x7 : Vec F S96x1 .f32) (x8 : Vec F S96x1 .f32) (x9 : Vec F S8x96 .f32) (x10 : Vec F S96x784 .bf16) (x11 : Vec F S96x784 .bf16) (x12 : Vec F S96x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0__moecn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__moecn_kernel_eq_skeleton]; unfold cc0__moecn_kernel_skel
  simp only [k0_part12_eq_skeleton]; unfold k0_part12_skel
  simp only [k0_part11_eq_skeleton]; unfold k0_part11_skel
  simp only [k0_part10_eq_skeleton]; unfold k0_part10_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

variable (m : (ℓ : Loc nD τ sig) → Buf (Elt F) ℓ) (ρ : Dev nD → PrngReg)

/-- The output window: nothing is said of what it holds. -/
def isOutW (w : Fin cfg0.W) : Bool := decide (w.val = 12)

/-- The proof data: every input block left as found, the scratch blocks at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fun _ => Classical.arbitrary _
    | ⟨_ + 13, h⟩ => absurd h (Nat.not_lt.2 (Nat.le_add_left _ _))
  Φ _ := Pipeline.ΦA spec0 c
  q w := Pipeline.shareOf spec0 w
  owed _ := 0

/-- What the window's array holds at launch. -/
theorem A_eq (c : Dev nD) (w : Fin cfg0.W) : (dats m 0 c).A w = V m c (Pipeline.arrRef spec0 w) := rfl

/-- A grid point leaves the block before the current one as read. -/
theorem after0_0 (c : Dev nD) (t : Fin cfg0.N) : (dats m 0 c).after 0 t = iblk m c 0 t := by dsimp only [dats]
/-- A grid point leaves the current block as read. -/
theorem after0_1 (c : Dev nD) (t : Fin cfg0.N) : (dats m 0 c).after 1 t = iblk m c 1 t := by dsimp only [dats]
/-- A grid point leaves the block after the current one as read. -/
theorem after0_2 (c : Dev nD) (t : Fin cfg0.N) : (dats m 0 c).after 2 t = iblk m c 2 t := by dsimp only [dats]
/-- A grid point leaves the image's block as read. -/
theorem after0_3 (c : Dev nD) (t : Fin cfg0.N) : (dats m 0 c).after 3 t = iblk m c 3 t := by dsimp only [dats]
/-- A grid point leaves the taps as read. -/
theorem after0_4 (c : Dev nD) (t : Fin cfg0.N) : (dats m 0 c).after 4 t = iblk m c 4 t := by dsimp only [dats]
/-- A grid point leaves the convolution's bias as read. -/
theorem after0_5 (c : Dev nD) (t : Fin cfg0.N) : (dats m 0 c).after 5 t = iblk m c 5 t := by dsimp only [dats]
/-- A grid point leaves the norm's gain as read. -/
theorem after0_6 (c : Dev nD) (t : Fin cfg0.N) : (dats m 0 c).after 6 t = iblk m c 6 t := by dsimp only [dats]
/-- A grid point leaves the norm's shift as read. -/
theorem after0_7 (c : Dev nD) (t : Fin cfg0.N) : (dats m 0 c).after 7 t = iblk m c 7 t := by dsimp only [dats]
/-- A grid point leaves the gates as read. -/
theorem after0_8 (c : Dev nD) (t : Fin cfg0.N) : (dats m 0 c).after 8 t = iblk m c 8 t := by dsimp only [dats]
/-- A grid point leaves the stacked first weights as read. -/
theorem after0_9 (c : Dev nD) (t : Fin cfg0.N) : (dats m 0 c).after 9 t = iblk m c 9 t := by dsimp only [dats]
/-- A grid point leaves the stacked second weights as read. -/
theorem after0_10 (c : Dev nD) (t : Fin cfg0.N) : (dats m 0 c).after 10 t = iblk m c 10 t := by dsimp only [dats]
/-- A grid point leaves the last scale as read. -/
theorem after0_11 (c : Dev nD) (t : Fin cfg0.N) : (dats m 0 c).after 11 t = iblk m c 11 t := by dsimp only [dats]

/-- A grid point finds the block before the current one in its window. -/
theorem before0_0 (c : Dev nD) (t : Fin cfg0.N) (d) : (dats m 0 c).before 0 t d = iblk m c 0 t :=
  before0_0_of m (dats m 0 c) (A_eq m c 0) (after0_0 m c) t d
/-- A grid point finds the current block in its window. -/
theorem before0_1 (c : Dev nD) (t : Fin cfg0.N) (d) : (dats m 0 c).before 1 t d = iblk m c 1 t :=
  before0_1_of m (dats m 0 c) (A_eq m c 1) (after0_1 m c) t d
/-- A grid point finds the block after the current one in its window. -/
theorem before0_2 (c : Dev nD) (t : Fin cfg0.N) (d) : (dats m 0 c).before 2 t d = iblk m c 2 t :=
  before0_2_of m (dats m 0 c) (A_eq m c 2) (after0_2 m c) t d
/-- A grid point finds the image's block in its window. -/
theorem before0_3 (c : Dev nD) (t : Fin cfg0.N) (d) : (dats m 0 c).before 3 t d = iblk m c 3 t :=
  before0_3_of m (dats m 0 c) (A_eq m c 3) (after0_3 m c) t d
/-- A grid point finds the taps in its window. -/
theorem before0_4 (c : Dev nD) (t : Fin cfg0.N) (d) : (dats m 0 c).before 4 t d = iblk m c 4 t :=
  before0_4_of m (dats m 0 c) (A_eq m c 4) (after0_4 m c) t d
/-- A grid point finds the convolution's bias in its window. -/
theorem before0_5 (c : Dev nD) (t : Fin cfg0.N) (d) : (dats m 0 c).before 5 t d = iblk m c 5 t :=
  before0_5_of m (dats m 0 c) (A_eq m c 5) (after0_5 m c) t d
/-- A grid point finds the norm's gain in its window. -/
theorem before0_6 (c : Dev nD) (t : Fin cfg0.N) (d) : (dats m 0 c).before 6 t d = iblk m c 6 t :=
  before0_6_of m (dats m 0 c) (A_eq m c 6) (after0_6 m c) t d
/-- A grid point finds the norm's shift in its window. -/
theorem before0_7 (c : Dev nD) (t : Fin cfg0.N) (d) : (dats m 0 c).before 7 t d = iblk m c 7 t :=
  before0_7_of m (dats m 0 c) (A_eq m c 7) (after0_7 m c) t d
/-- A grid point finds the gates in its window. -/
theorem before0_8 (c : Dev nD) (t : Fin cfg0.N) (d) : (dats m 0 c).before 8 t d = iblk m c 8 t :=
  before0_8_of m (dats m 0 c) (A_eq m c 8) (after0_8 m c) t d
/-- A grid point finds the stacked first weights in its window. -/
theorem before0_9 (c : Dev nD) (t : Fin cfg0.N) (d) : (dats m 0 c).before 9 t d = iblk m c 9 t :=
  before0_9_of m (dats m 0 c) (A_eq m c 9) (after0_9 m c) t d
/-- A grid point finds the stacked second weights in its window. -/
theorem before0_10 (c : Dev nD) (t : Fin cfg0.N) (d) : (dats m 0 c).before 10 t d = iblk m c 10 t :=
  before0_10_of m (dats m 0 c) (A_eq m c 10) (after0_10 m c) t d
/-- A grid point finds the last scale in its window. -/
theorem before0_11 (c : Dev nD) (t : Fin cfg0.N) (d) : (dats m 0 c).before 11 t d = iblk m c 11 t :=
  before0_11_of m (dats m 0 c) (A_eq m c 11) (after0_11 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ Y, owns (c : Thread nD τ) (st0_12 t) fullShare Y))

/-- What the body hands back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X))

/-- The body at point `t` runs from what it is handed to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scopedRest0_eq]
  iintro ⟨⟨⟨⟨%f, HS⟩, ⟨%f', HY⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, H12⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexists f; iapply (Entails.of_eq (owns_whole (c : Thread nD τ) cc0_scratch0 fullShare f).symm); iexact HS
  isplitl [HY]; · iexists f'; iapply (Entails.of_eq (owns_whole (c : Thread nD τ) cc0_scratch1 fullShare f').symm); iexact HY
  iintro ⟨H0, H1, H2, H3, H4, H5, H6, H7, H8, H9, H10, H11, ⟨%X, H12⟩, ⟨%s, HS⟩, ⟨%y, HY⟩⟩
  isplitl [HS HY HR]
  · isplitl [HS HY]
    · isplitl [HS]
      · iexists s; iapply (Entails.of_eq (owns_whole (c : Thread nD τ) cc0_scratch0 fullShare s)); iexact HS
      · iexists y; iapply (Entails.of_eq (owns_whole (c : Thread nD τ) cc0_scratch1 fullShare y)); iexact HY
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists X
  iexact H12

/-- The body's obligation at every point. -/
theorem body_obligation (c : Dev nD) :
    Pipeline.BodyObligationLoose (dats (F := F) m 0 c) (defs₀ (F := F)) Variants.none () Set.univ isOutW := fun t => by
  rw [bigSep_W0, bigSep_W0]
  exact sound_body m c t

/-- The last host line writes the result only. -/
theorem tail_writes : ∀ ops ∈ ([hostOps1] : List (List (HloOp τ sig (Elt F)))), ∀ op ∈ ops, ∀ b : Ref sig .tc,
    Proc.devRef .tc b ∈ op.writes → b ∈ ({main_v25} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective (τ := τ) _ hb)

set_option backward.isDefEq.respectTransparency.types false in
/-- The run, in the library's terms. -/
theorem run_raw : θ_run defs (onTc (τ := τ) (main (F := F))) (s₀ m ρ) (fun r =>
    Pipeline.RDat.FramePostR cfg0 (fun c => (dats m 0 c).toRForget isOutW) {main_v25} (V m) r ∧ r.2.sem = (fun _ => 0)) :=
  Pipeline.θ_run_frame_around_T_forget_shared cfgs (dats m) 0 launch₀0 defs₀ Variants.none isOutW {main_v25} m ρ main
    (body_obligation m) (fun _ _ _ => rfl) (fun _ _ => rfl) (V0 m) [hostOps1] sfx_sub sfx_fresh sfx_keeps tail_writes
    (hmain m Variants.none) (fun _ _ => rfl) (fun _ _ => rfl) _ (fun _ h => h)

/-- THE RUN: it terminates with the arguments unchanged and the semaphores at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = (fun _ => 0)) := by
  classical
  refine (θ_run defs _ _).mono ?_ (run_raw m ρ)
  rintro r ⟨h, hs⟩
  refine ⟨fun c => ?_, hs⟩
  have keep : ∀ b : Ref sig .tc, b.isScoped = false → (∀ w, (spec0 w).arr.view.ref ≠ b) → b ≠ main_v25 →
      r.2.mem ((c.tc : Thread nD τ).loc b) = V m c b := fun b hb ha hne =>
    (h c).2 b (Finset.mem_sdiff.mpr ⟨Pipeline.mem_restRefs_of b hb ha, by simpa using hne⟩)
  refine ⟨(keep main_arg0 (by decide) (by decide) (by decide)).trans (V_main_arg0 m c),
    (keep main_arg1 (by decide) (by decide) (by decide)).trans (V_main_arg1 m c),
    (keep main_arg2 (by decide) (by decide) (by decide)).trans (V_main_arg2 m c),
    (keep main_arg3 (by decide) (by decide) (by decide)).trans (V_main_arg3 m c),
    (keep main_arg4 (by decide) (by decide) (by decide)).trans (V_main_arg4 m c),
    ?_,
    (keep main_arg6 (by decide) (by decide) (by decide)).trans (V_main_arg6 m c),
    (keep main_arg7 (by decide) (by decide) (by decide)).trans (V_main_arg7 m c),
    (keep main_arg8 (by decide) (by decide) (by decide)).trans (V_main_arg8 m c),
    (keep main_arg9 (by decide) (by decide) (by decide)).trans (V_main_arg9 m c),
    (keep main_arg10 (by decide) (by decide) (by decide)).trans (V_main_arg10 m c)⟩
  have h8 := (h c).1 8
  rw [((dats m 0 c).toRForget isOutW).ArrAt_in 8 rfl] at h8
  exact h8.trans (V_main_arg5 m c)

end Cert.Kernel.Hand

end
-- ==== Proof.Frames.lean ====
/- The claims that state no value: each program runs to its end, leaves its arguments as they were and every semaphore at
   zero, and the named constant is what the idealized program holds in the rounded one's place. -/
module

public import proofs.«01_k».proof.Defs
public import proofs.«01_k».proof.Proof.IdealRun
public import proofs.«01_k».proof.Proof.BitsRun
public import proofs.«01_k».proof.Proof.Gen.ReferenceIdeal.Run
public import Idealize.ShloMosaic.Lib.Claim

@[expose] public section

noncomputable section

namespace Cert.Proof

open Idealize.ShloMosaic Idealize.SL.Sem

/-- The shapes the precondition broadcasts its bound to. -/
theorem preFacts : Cert.Pre_finite_into_the_router.Facts where
  bcast_S_S1x96x224x224 := by decide
  bcast_S_S96x1x7x7 := by decide
  bcast_S_S96 := by decide
  bcast_S_S8x96 := by decide

/-- The kernel as printed runs and leaves its arguments alone. -/
theorem frame_kernel : Cert.quiescent_Kernel := by
  intro m g _
  exact Cert.Kernel.Hand.run_main m g

/-- The idealized kernel runs and leaves its arguments alone. -/
theorem frame_ideal : Cert.quiescent_KernelIdeal := by
  intro m g _
  exact (θ_run _ _ _).mono (fun r h => ⟨fun c => (h.1 c).1, h.2⟩) (Cert.KernelIdeal.Hand.run_main m g)

/-- So it does under the precondition. -/
theorem frame_ideal_pre : Cert.quiescent_KernelIdeal_pre_finite_into_the_router (hPre_finite_into_the_router := preFacts) := by
  intro m g _
  exact frame_ideal m g trivial

/-- The reference runs and leaves its arguments alone; it declares no semaphore. -/
theorem frame_reference : Cert.quiescent_ReferenceIdeal := by
  intro m g _
  exact (θ_run _ _ _).mono (fun r h => ⟨fun c => (h c).2, Idealize.ShloMosaic.sem_eq_zero_of_no_sems (by decide) r.2⟩)
    (Cert.ReferenceIdeal.Value.run m g)

/-- So it does under the precondition. -/
theorem frame_reference_pre :
    Cert.quiescent_ReferenceIdeal_pre_finite_into_the_router (hPre_finite_into_the_router := preFacts) := by
  intro m g _
  exact frame_reference m g trivial

/-- The constant the idealized kernel names is the root of one half, which the rounded literal stands for. -/
theorem named : Cert.preserves_Kernel_KernelIdeal :=
  IdealRules.named_const.statement Cert.KernelIdeal.κ "rsqrt2" .f32 0x3F3504F3#32 ((Real.sqrt (2⁻¹) : ℝ) : EReal) rfl

end Cert.Proof

end
-- ==== Proof.ConvBlock.lean ====
/- The convolution a grid point computes: the seven shifted windows, their taps and the bias, at an index. -/
module

public import proofs.«01_k».proof.Proof.IdealBody
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-- The three blocks side by side, read at position `p` of row `r`; zero past them. -/
def three (x1 x2 x3 : FVec Ideal S96x2048 .bf16) (r : Fin 96) (p : ℕ) : EReal :=
  if h : p < 2048 then x1 (ix2 r ⟨p, h⟩)
  else if h : p - 2048 < 2048 then x2 (ix2 r ⟨p - 2048, h⟩)
  else if h : p - 4096 < 2048 then x3 (ix2 r ⟨p - 4096, h⟩) else 0

/-- A whole block as loaded is the block. -/
theorem whole2048_eq {e : EltTy} (x : Vec Ideal S96x2048 e) : whole2048 x = x := View.ld_unit_zero hz2 _ _

variable (x1 x2 x3 : FVec Ideal S96x2048 .bf16) (r : Fin 96)

/-- The first block is read below 2048, -/
theorem three_one {p : ℕ} (q : Fin 2048) (h : q.val = p) : x1 (ix2 r q) = three x1 x2 x3 r p := by
  subst h
  rw [three, dif_pos q.isLt]
/-- the second from there to 4096, -/
theorem three_two {p : ℕ} (q : Fin 2048) (h : q.val + 2048 = p) : x2 (ix2 r q) = three x1 x2 x3 r p := by
  subst h
  have e : (⟨q.val + 2048 - 2048, by omega⟩ : Fin 2048) = q := Fin.ext (by simp)
  rw [three, dif_neg (by omega), dif_pos (by omega), e]
/-- the third from there to 6144. -/
theorem three_three {p : ℕ} (q : Fin 2048) (h : q.val + 4096 = p) : x3 (ix2 r q) = three x1 x2 x3 r p := by
  subst h
  have e : (⟨q.val + 4096 - 4096, by omega⟩ : Fin 2048) = q := Fin.ext (by simp)
  rw [three, dif_neg (by omega), dif_neg (by omega), dif_pos (by omega), e]

/-- What column 0 of the taps reads at `k`: the three blocks from 1277 on. -/
theorem bWide0_apply (k : Fin 3584) : bWide0 (F := Ideal) x1 x2 x3 (ix2 r k) = three x1 x2 x3 r (1277 + k) := by
  unfold bWide0
  rw [whole2048_eq]
  pointwise [k0_pay35]
  have hk := k.isLt
  by_cases h1 : (k : ℕ) < 771
  · rw [dif_pos h1]
    exact three_one x1 x2 x3 r _ (by dsimp only)
  rw [dif_neg h1]
  by_cases h2 : (k : ℕ) - 771 < 2048
  · rw [dif_pos h2]
    exact three_two x1 x2 x3 r _ (by dsimp only; omega)
  rw [dif_neg h2]
  exact three_three x1 x2 x3 r _ (by dsimp only; omega)

/-- Column 0 of the taps: its seven rows' products, summed. -/
theorem bCol0_apply (x5 : FVec Ideal S96x56 .bf16) (l : Fin 2048) : bCol0 (F := Ideal) x1 x2 x3 x5 (ix2 r l)
      = ∑ a : Fin 7, three x1 x2 x3 r (1277 + 256 * a + l) * x5 (ix2 r ⟨7 * a + 0, by omega⟩) := by
  rw [Fin.sum_univ_seven]
  have hw := bWide0_apply x1 x2 x3
  unfold bWide0 at hw
  pointwise [bCol0, k0_pay37, k0_pay36, bWide0, hw]
  simp only [← Nat.add_assoc, Nat.reduceAdd]

/-- What column 1 of the taps reads at `k`: the three blocks from 1278 on. -/
theorem bWide1_apply (k : Fin 3584) : bWide1 (F := Ideal) x1 x2 x3 (ix2 r k) = three x1 x2 x3 r (1278 + k) := by
  unfold bWide1
  rw [whole2048_eq]
  pointwise [k0_pay38]
  have hk := k.isLt
  by_cases h1 : (k : ℕ) < 770
  · rw [dif_pos h1]
    exact three_one x1 x2 x3 r _ (by dsimp only)
  rw [dif_neg h1]
  by_cases h2 : (k : ℕ) - 770 < 2048
  · rw [dif_pos h2]
    exact three_two x1 x2 x3 r _ (by dsimp only; omega)
  rw [dif_neg h2]
  exact three_three x1 x2 x3 r _ (by dsimp only; omega)

/-- Column 1 of the taps: its seven rows' products, summed. -/
theorem bCol1_apply (x5 : FVec Ideal S96x56 .bf16) (l : Fin 2048) : bCol1 (F := Ideal) x1 x2 x3 x5 (ix2 r l)
      = ∑ a : Fin 7, three x1 x2 x3 r (1278 + 256 * a + l) * x5 (ix2 r ⟨7 * a + 1, by omega⟩) := by
  rw [Fin.sum_univ_seven]
  have hw := bWide1_apply x1 x2 x3
  unfold bWide1 at hw
  pointwise [bCol1, k0_pay40, k0_pay39, bWide1, hw]
  simp only [← Nat.add_assoc, Nat.reduceAdd]

/-- What column 2 of the taps reads at `k`: the three blocks from 1279 on. -/
theorem bWide2_apply (k : Fin 3584) : bWide2 (F := Ideal) x1 x2 x3 (ix2 r k) = three x1 x2 x3 r (1279 + k) := by
  unfold bWide2
  rw [whole2048_eq]
  pointwise [k0_pay41]
  have hk := k.isLt
  by_cases h1 : (k : ℕ) < 769
  · rw [dif_pos h1]
    exact three_one x1 x2 x3 r _ (by dsimp only)
  rw [dif_neg h1]
  by_cases h2 : (k : ℕ) - 769 < 2048
  · rw [dif_pos h2]
    exact three_two x1 x2 x3 r _ (by dsimp only; omega)
  rw [dif_neg h2]
  exact three_three x1 x2 x3 r _ (by dsimp only; omega)

/-- Column 2 of the taps: its seven rows' products, summed. -/
theorem bCol2_apply (x5 : FVec Ideal S96x56 .bf16) (l : Fin 2048) : bCol2 (F := Ideal) x1 x2 x3 x5 (ix2 r l)
      = ∑ a : Fin 7, three x1 x2 x3 r (1279 + 256 * a + l) * x5 (ix2 r ⟨7 * a + 2, by omega⟩) := by
  rw [Fin.sum_univ_seven]
  have hw := bWide2_apply x1 x2 x3
  unfold bWide2 at hw
  pointwise [bCol2, k0_pay43, k0_pay42, bWide2, hw]
  simp only [← Nat.add_assoc, Nat.reduceAdd]

/-- What column 3 of the taps reads at `k`: the three blocks from 1280 on. -/
theorem bWide3_apply (k : Fin 3584) : bWide3 (F := Ideal) x1 x2 x3 (ix2 r k) = three x1 x2 x3 r (1280 + k) := by
  unfold bWide3
  rw [whole2048_eq]
  pointwise [k0_pay44]
  have hk := k.isLt
  by_cases h1 : (k : ℕ) < 768
  · rw [dif_pos h1]
    exact three_one x1 x2 x3 r _ (by dsimp only)
  rw [dif_neg h1]
  by_cases h2 : (k : ℕ) - 768 < 2048
  · rw [dif_pos h2]
    exact three_two x1 x2 x3 r _ (by dsimp only; omega)
  rw [dif_neg h2]
  exact three_three x1 x2 x3 r _ (by dsimp only; omega)

/-- Column 3 of the taps: its seven rows' products, summed. -/
theorem bCol3_apply (x5 : FVec Ideal S96x56 .bf16) (l : Fin 2048) : bCol3 (F := Ideal) x1 x2 x3 x5 (ix2 r l)
      = ∑ a : Fin 7, three x1 x2 x3 r (1280 + 256 * a + l) * x5 (ix2 r ⟨7 * a + 3, by omega⟩) := by
  rw [Fin.sum_univ_seven]
  have hw := bWide3_apply x1 x2 x3
  unfold bWide3 at hw
  pointwise [bCol3, k0_pay46, k0_pay45, bWide3, hw]
  simp only [← Nat.add_assoc, Nat.reduceAdd]

/-- What column 4 of the taps reads at `k`: the three blocks from 1281 on. -/
theorem bWide4_apply (k : Fin 3584) : bWide4 (F := Ideal) x1 x2 x3 (ix2 r k) = three x1 x2 x3 r (1281 + k) := by
  unfold bWide4
  rw [whole2048_eq]
  pointwise [k0_pay47]
  have hk := k.isLt
  by_cases h1 : (k : ℕ) < 767
  · rw [dif_pos h1]
    exact three_one x1 x2 x3 r _ (by dsimp only)
  rw [dif_neg h1]
  by_cases h2 : (k : ℕ) - 767 < 2048
  · rw [dif_pos h2]
    exact three_two x1 x2 x3 r _ (by dsimp only; omega)
  rw [dif_neg h2]
  exact three_three x1 x2 x3 r _ (by dsimp only; omega)

/-- Column 4 of the taps: its seven rows' products, summed. -/
theorem bCol4_apply (x5 : FVec Ideal S96x56 .bf16) (l : Fin 2048) : bCol4 (F := Ideal) x1 x2 x3 x5 (ix2 r l)
      = ∑ a : Fin 7, three x1 x2 x3 r (1281 + 256 * a + l) * x5 (ix2 r ⟨7 * a + 4, by omega⟩) := by
  rw [Fin.sum_univ_seven]
  have hw := bWide4_apply x1 x2 x3
  unfold bWide4 at hw
  pointwise [bCol4, k0_pay49, k0_pay48, bWide4, hw]
  simp only [← Nat.add_assoc, Nat.reduceAdd]

/-- What column 5 of the taps reads at `k`: the three blocks from 1282 on. -/
theorem bWide5_apply (k : Fin 3584) : bWide5 (F := Ideal) x1 x2 x3 (ix2 r k) = three x1 x2 x3 r (1282 + k) := by
  unfold bWide5
  rw [whole2048_eq]
  pointwise [k0_pay50]
  have hk := k.isLt
  by_cases h1 : (k : ℕ) < 766
  · rw [dif_pos h1]
    exact three_one x1 x2 x3 r _ (by dsimp only)
  rw [dif_neg h1]
  by_cases h2 : (k : ℕ) - 766 < 2048
  · rw [dif_pos h2]
    exact three_two x1 x2 x3 r _ (by dsimp only; omega)
  rw [dif_neg h2]
  exact three_three x1 x2 x3 r _ (by dsimp only; omega)

/-- Column 5 of the taps: its seven rows' products, summed. -/
theorem bCol5_apply (x5 : FVec Ideal S96x56 .bf16) (l : Fin 2048) : bCol5 (F := Ideal) x1 x2 x3 x5 (ix2 r l)
      = ∑ a : Fin 7, three x1 x2 x3 r (1282 + 256 * a + l) * x5 (ix2 r ⟨7 * a + 5, by omega⟩) := by
  rw [Fin.sum_univ_seven]
  have hw := bWide5_apply x1 x2 x3
  unfold bWide5 at hw
  pointwise [bCol5, k0_pay51, bWide5, hw]
  simp only [← Nat.add_assoc, Nat.reduceAdd]

/-- What column 6 of the taps reads at `k`: the three blocks from 1283 on. -/
theorem wide6_apply (k : Fin 3584) :
    k0_pay53 (F := Ideal) (k0_pay52 (View.ld x1 (Rect.unit (s := S96x2048) ![0, 1283] S96x765.size inb_S96x2048_S96x765_0_1283)))
      x2 (View.ld x3 (Rect.unit (s := S96x2048) ![0, 0] S96x771.size inb_S96x2048_S96x771_0_0)) (ix2 r k)
      = three x1 x2 x3 r (1283 + k) := by
  pointwise [k0_pay53, k0_pay52]
  have hk := k.isLt
  by_cases h1 : (k : ℕ) < 765
  · rw [dif_pos h1]
    exact three_one x1 x2 x3 r _ (by dsimp only)
  rw [dif_neg h1]
  by_cases h2 : (k : ℕ) - 765 < 2048
  · rw [dif_pos h2]
    exact three_two x1 x2 x3 r _ (by dsimp only; omega)
  rw [dif_neg h2]
  exact three_three x1 x2 x3 r _ (by dsimp only; omega)

/-- Column 6 of the taps with its last row: the seven products, summed. -/
theorem bCol6_apply (x5 : FVec Ideal S96x56 .bf16) (l : Fin 2048) :
    bCol6 (F := Ideal) x1 x2 x3 x5 (ix2 r l) + bLast (F := Ideal) x1 x2 x3 (ix2 r l)
        * k0_pay56 (F := Ideal) (View.ld x5 (Rect.unit (s := S96x56) ![0, 48] S96x1.size inb_S96x56_S96x1_0_48)) (ix2 r l)
      = ∑ a : Fin 7, three x1 x2 x3 r (1283 + 256 * a + l) * x5 (ix2 r ⟨7 * a + 6, by omega⟩) := by
  rw [Fin.sum_univ_seven]
  unfold bCol6 bLast
  rw [whole2048_eq]
  pointwise [k0_pay54, k0_pay55, k0_pay56, wide6_apply x1 x2 x3]
  simp only [← Nat.add_assoc, Nat.reduceAdd]

end Cert.KernelIdeal.Hand

end
-- ==== Proof.NormBlock.lean ====
/- The layer-normed convolution that one point of the grid computes, read at an index: the convolution as a double sum of
   products over the window's columns and rows, then the layer norm over the channels. -/
module

public import proofs.«01_k».proof.Proof.ConvBlock

@[expose] public section

set_option maxRecDepth 16384

noncomputable section

namespace Cert.KernelIdeal.Hand

open Cert.KernelIdeal Cert.KernelIdeal.Gen
open Idealize.ShloMosaic Idealize.ShloMosaic.TcCoe Idealize.SL.Sem

/-- The convolution at row `r` and position `l` of the middle block: the seven columns' seven products each, and the bias. -/
def convAt (x1 x2 x3 : FVec Ideal S96x2048 .bf16) (x5 : FVec Ideal S96x56 .bf16) (x6 : FVec Ideal S96x1 .f32) (r : Fin 96)
    (l : Fin 2048) : EReal :=
  (∑ d : Fin 7, ∑ a : Fin 7, three x1 x2 x3 r (1277 + d + 256 * a + l) * x5 (ix2 r ⟨7 * a + d, by omega⟩)) + x6 (ix2 r 0)

/-- The layer norm of the channels `cv` as the kernel computes it, the variance as the mean square less the squared mean. -/
def normK (cv : Fin 96 → EReal) (g b : EReal) (r : Fin 96) : EReal :=
  (cv r - Ideal.div (∑ k, cv k) (Ideal.ofBits .f32 0x42C00000#32))
      * Ideal.rsqrt (Ideal.div (∑ k, cv k * cv k) (Ideal.ofBits .f32 0x42C00000#32)
          - Ideal.div (∑ k, cv k) (Ideal.ofBits .f32 0x42C00000#32) * Ideal.div (∑ k, cv k) (Ideal.ofBits .f32 0x42C00000#32)
          + Ideal.ofBits .f32 0x358637BD#32) * g + b

/-- A whole column as loaded is the column. -/
theorem wholeCol_eq (x : FVec Ideal S96x1 .f32) : wholeCol (F := Ideal) x = x := View.ld_unit_zero hz2 _ _

/-- The layer-normed block at an index. -/
theorem bNorm_apply (x1 x2 x3 : FVec Ideal S96x2048 .bf16) (x5 : FVec Ideal S96x56 .bf16) (x6 x7 x8 : FVec Ideal S96x1 .f32)
    (r : Fin 96) (l : Fin 2048) : bNorm (F := Ideal) x1 x2 x3 x5 x6 x7 x8 (ix2 r l)
      = normK (fun k => convAt x1 x2 x3 x5 x6 k l) (x7 (ix2 r 0)) (x8 (ix2 r 0)) r := by
  unfold bNorm
  rw [wholeCol_eq, wholeCol_eq, wholeCol_eq]
  pointwise [k0_pay1, k0_pay57, k0_pay58, normK, bCol6_apply x1 x2 x3]
  have hc (k : Fin 96) : bCol0 (F := Ideal) x1 x2 x3 x5 (ix2 k l) + bCol1 (F := Ideal) x1 x2 x3 x5 (ix2 k l)
      + (bCol2 (F := Ideal) x1 x2 x3 x5 (ix2 k l) + bCol3 (F := Ideal) x1 x2 x3 x5 (ix2 k l))
      + (bCol4 (F := Ideal) x1 x2 x3 x5 (ix2 k l) + bCol5 (F := Ideal) x1 x2 x3 x5 (ix2 k l)
        + ∑ a : Fin 7, three x1 x2 x3 k (1283 + 256 * a + l) * x5 (ix2 k ⟨7 * a + 6, by omega⟩)) + x6 (ix2 k 0)
      = convAt x1 x2 x3 x5 x6 k l := by
    refine Eq.trans ?_ (congrArg (· + x6 (ix2 k 0)) (Fin.sum_univ_seven _).symm)
    rw [bCol0_apply, bCol1_apply, bCol2_apply, bCol3_apply, bCol4_apply, bCol5_apply]
    simp only [← add_assoc]
    rfl
  simp only [hc]

end Cert.KernelIdeal.Hand

end
-- ==== Proof.MaskBlock.lean ====
/- The router inside one block of positions: the logits, their maximum, and the eight masks, mask `e` one exactly at the
   positions whose first largest logit is expert `e`'s. -/
module

public import proofs.«01_k».proof.Proof.NormBlock

@[expose] public section

set_option maxRecDepth 16384

noncomputable section

namespace Cert.KernelIdeal.Hand

open Cert.KernelIdeal Cert.KernelIdeal.Gen
open Idealize.ShloMosaic Idealize.ShloMosaic.TcCoe Idealize.SL.Sem
open scoped Classical

/-- The largest of eight logits. -/
def topOf (L : Fin 8 → EReal) : EReal := Finset.univ.fold max (Ideal.ofBits .f32 0xFF800000#32) L

/-- Expert `e` is the first whose logit is the largest. -/
def FirstTop (L : Fin 8 → EReal) (e : Fin 8) : Prop := L e = topOf L ∧ ∀ e' : Fin 8, e' < e → L e' ≠ topOf L

/-- One of the experts before the `n`th has the largest logit. -/
def TopBefore (L : Fin 8 → EReal) (n : ℕ) : Prop := ∃ e : Fin 8, e.val < n ∧ L e = topOf L

/-- One where expert `e` is the first with the largest logit, zero elsewhere. -/
def maskOf (L : Fin 8 → EReal) (e : Fin 8) : EReal := if FirstTop L e then 1 else 0

/-- The truth value of a proposition as a bit. -/
def bit (P : Prop) : BitVec 1 := BitVec.ofBool (decide P)

/-- A decided proposition as a bit. -/
theorem ofBool_bit (P : Prop) [Decidable P] : BitVec.ofBool (decide P) = bit P := by
  unfold bit
  congr

/-- The bit of a true proposition. -/
theorem bit_true {P : Prop} (h : P) : bit P = 1#1 := by simp [bit, h]
/-- The bit of a false proposition. -/
theorem bit_false {P : Prop} (h : ¬P) : bit P = 0#1 := by simp [bit, h]

/-- "Largest and nobody taken before" is "first largest", as bits. -/
theorem hit_step (L : Fin 8 → EReal) (e : Fin 8) {n : ℕ} (hn : e.val = n) :
    IntOp.andi (bit (L e = topOf L)) (IntOp.xori (bit (TopBefore L n)) 1#1) = bit (FirstTop L e) := by
  subst hn
  by_cases h : L e = topOf L
  · by_cases hb : TopBefore L e
    · have hf : ¬FirstTop L e := fun hf => by
        obtain ⟨e', hlt, he'⟩ := hb
        exact hf.2 e' hlt he'
      rw [bit_true h, bit_true hb, bit_false hf]
      decide
    · have hf : FirstTop L e := ⟨h, fun e' hlt he' => hb ⟨e', hlt, he'⟩⟩
      rw [bit_true h, bit_false hb, bit_true hf]
      decide
  · have hf : ¬FirstTop L e := fun hf => h hf.1
    rw [bit_false h, bit_false hf]
    by_cases hb : TopBefore L e
    · rw [bit_true hb]; decide
    · rw [bit_false hb]; decide

/-- "Taken before or first largest" is "taken before the next", as bits. -/
theorem taken_step (L : Fin 8 → EReal) (e : Fin 8) {n k : ℕ} (hn : e.val = n) (hk : n + 1 = k) :
    IntOp.ori (bit (TopBefore L n)) (bit (FirstTop L e)) = bit (TopBefore L k) := by
  subst hn hk
  by_cases hb : TopBefore L e
  · have hb' : TopBefore L (e + 1) := by
      obtain ⟨e', hlt, he'⟩ := hb
      exact ⟨e', by omega, he'⟩
    rw [bit_true hb, bit_true hb']
    by_cases hf : FirstTop L e
    · rw [bit_true hf]; decide
    · rw [bit_false hf]; decide
  · rw [bit_false hb]
    by_cases h : L e = topOf L
    · have hf : FirstTop L e := ⟨h, fun e' hlt he' => hb ⟨e', hlt, he'⟩⟩
      rw [bit_true hf, bit_true ⟨e, by omega, h⟩]
      decide
    · have hf : ¬FirstTop L e := fun hf => h hf.1
      have hb' : ¬TopBefore L (e + 1) := fun ⟨e', hlt, he'⟩ => by
        rcases Nat.lt_succ_iff_lt_or_eq.mp hlt with hl | hl
        · exact hb ⟨e', hl, he'⟩
        · exact h (Fin.ext hl ▸ he')
      rw [bit_false hf, bit_false hb']
      decide

/-- Nobody comes before the first expert. -/
theorem bit_none (L : Fin 8 → EReal) : bit (TopBefore L 0) = 0#1 :=
  bit_false fun ⟨_, h, _⟩ => absurd h (Nat.not_lt_zero _)

/-- A bit made a float: one where it is set. -/
theorem float_bit (P : Prop) : FloatOps.sitofp (F := Ideal) .f32 (BitVec.setWidth 32 (bit P)) = if P then (1 : EReal) else 0 := by
  by_cases h : P
  · rw [bit_true h, if_pos h]
    show (((BitVec.setWidth 32 1#1).toInt : ℝ) : EReal) = 1
    norm_num
  · rw [bit_false h, if_neg h]
    show (((BitVec.setWidth 32 0#1).toInt : ℝ) : EReal) = 0
    norm_num

variable (s : FVec Ideal S96x2048 .f32) (x9 : FVec Ideal S8x96 .f32) (l : Fin 2048)

/-- The gates as loaded are the gates. -/
theorem wholeGate_eq : wholeGate (F := Ideal) x9 = x9 := View.ld_unit_zero hz2 _ _

/-- The logit of expert `e` at position `l`. -/
def lg (e : Fin 8) : EReal := ∑ k : Fin 96, x9 (ix2 e k) * s (ix2 k l)

/-- The logits of a column. -/
theorem logits_apply (e : Fin 8) : k0_pay2 (F := Ideal) s x9 (ix2 e l) = lg s x9 l e := by
  pointwise [k0_pay2, lg]

/-- The greatest logit of a column. -/
theorem max_apply : k0_pay3 (F := Ideal) s x9 (ix2 0 l) = topOf (lg s x9 l) := by
  pointwise [k0_pay3, topOf, logits_apply s x9]

/-- Whether one of the first 0 experts has the greatest logit, as a bit. -/
theorem taken0_apply : k0_pay4 (ix2 0 l) = bit (TopBefore (lg s x9 l) 0) := by
  rw [bit_none]
  pointwise [k0_pay4]

/-- Whether expert 0 is the first with the greatest logit, as a bit. -/
theorem hit0_apply : k0_pay5 (F := Ideal) s x9 (ix2 0 l) = bit (FirstTop (lg s x9 l) 0) := by
  rw [← hit_step (lg s x9 l) 0 (n := 0) rfl]
  pointwise [k0_pay5, logits_apply s x9, max_apply s x9, taken0_apply s x9, ofBool_bit]

/-- Whether one of the first 1 experts has the greatest logit, as a bit. -/
theorem taken1_apply : k0_pay6 (F := Ideal) s x9 (ix2 0 l) = bit (TopBefore (lg s x9 l) 1) := by
  rw [← taken_step (lg s x9 l) 0 (n := 0) (k := 1) rfl rfl]
  pointwise [k0_pay6, taken0_apply s x9, hit0_apply s x9]

/-- Mask 0. -/
theorem bMask0_apply : bMask0 (F := Ideal) s x9 (ix2 0 l) = maskOf (lg s x9 l) 0 := by
  unfold bMask0
  rw [whole2048_eq, wholeGate_eq]
  refine Eq.trans ?_ (float_bit _)
  pointwise [k0_pay7, hit0_apply s x9]

/-- Whether expert 1 is the first with the greatest logit, as a bit. -/
theorem hit1_apply : k0_pay8 (F := Ideal) s x9 (ix2 0 l) = bit (FirstTop (lg s x9 l) 1) := by
  rw [← hit_step (lg s x9 l) 1 (n := 1) rfl]
  pointwise [k0_pay8, logits_apply s x9, max_apply s x9, taken1_apply s x9, ofBool_bit]

/-- Whether one of the first 2 experts has the greatest logit, as a bit. -/
theorem taken2_apply : k0_pay9 (F := Ideal) s x9 (ix2 0 l) = bit (TopBefore (lg s x9 l) 2) := by
  rw [← taken_step (lg s x9 l) 1 (n := 1) (k := 2) rfl rfl]
  pointwise [k0_pay9, taken1_apply s x9, hit1_apply s x9]

/-- Mask 1. -/
theorem bMask1_apply : bMask1 (F := Ideal) s x9 (ix2 0 l) = maskOf (lg s x9 l) 1 := by
  unfold bMask1
  rw [whole2048_eq, wholeGate_eq]
  refine Eq.trans ?_ (float_bit _)
  pointwise [k0_pay10, hit1_apply s x9]

/-- Whether expert 2 is the first with the greatest logit, as a bit. -/
theorem hit2_apply : k0_pay11 (F := Ideal) s x9 (ix2 0 l) = bit (FirstTop (lg s x9 l) 2) := by
  rw [← hit_step (lg s x9 l) 2 (n := 2) rfl]
  pointwise [k0_pay11, logits_apply s x9, max_apply s x9, taken2_apply s x9, ofBool_bit]

/-- Whether one of the first 3 experts has the greatest logit, as a bit. -/
theorem taken3_apply : k0_pay12 (F := Ideal) s x9 (ix2 0 l) = bit (TopBefore (lg s x9 l) 3) := by
  rw [← taken_step (lg s x9 l) 2 (n := 2) (k := 3) rfl rfl]
  pointwise [k0_pay12, taken2_apply s x9, hit2_apply s x9]

/-- Mask 2. -/
theorem bMask2_apply : bMask2 (F := Ideal) s x9 (ix2 0 l) = maskOf (lg s x9 l) 2 := by
  unfold bMask2
  rw [whole2048_eq, wholeGate_eq]
  refine Eq.trans ?_ (float_bit _)
  pointwise [k0_pay13, hit2_apply s x9]

/-- Whether expert 3 is the first with the greatest logit, as a bit. -/
theorem hit3_apply : k0_pay14 (F := Ideal) s x9 (ix2 0 l) = bit (FirstTop (lg s x9 l) 3) := by
  rw [← hit_step (lg s x9 l) 3 (n := 3) rfl]
  pointwise [k0_pay14, logits_apply s x9, max_apply s x9, taken3_apply s x9, ofBool_bit]

/-- Whether one of the first 4 experts has the greatest logit, as a bit. -/
theorem taken4_apply : k0_pay15 (F := Ideal) s x9 (ix2 0 l) = bit (TopBefore (lg s x9 l) 4) := by
  rw [← taken_step (lg s x9 l) 3 (n := 3) (k := 4) rfl rfl]
  pointwise [k0_pay15, taken3_apply s x9, hit3_apply s x9]

/-- Mask 3. -/
theorem bMask3_apply : bMask3 (F := Ideal) s x9 (ix2 0 l) = maskOf (lg s x9 l) 3 := by
  unfold bMask3
  rw [whole2048_eq, wholeGate_eq]
  refine Eq.trans ?_ (float_bit _)
  pointwise [k0_pay16, hit3_apply s x9]

/-- Whether expert 4 is the first with the greatest logit, as a bit. -/
theorem hit4_apply : k0_pay17 (F := Ideal) s x9 (ix2 0 l) = bit (FirstTop (lg s x9 l) 4) := by
  rw [← hit_step (lg s x9 l) 4 (n := 4) rfl]
  pointwise [k0_pay17, logits_apply s x9, max_apply s x9, taken4_apply s x9, ofBool_bit]

/-- Whether one of the first 5 experts has the greatest logit, as a bit. -/
theorem taken5_apply : k0_pay18 (F := Ideal) s x9 (ix2 0 l) = bit (TopBefore (lg s x9 l) 5) := by
  rw [← taken_step (lg s x9 l) 4 (n := 4) (k := 5) rfl rfl]
  pointwise [k0_pay18, taken4_apply s x9, hit4_apply s x9]

/-- Mask 4. -/
theorem bMask4_apply : bMask4 (F := Ideal) s x9 (ix2 0 l) = maskOf (lg s x9 l) 4 := by
  unfold bMask4
  rw [whole2048_eq, wholeGate_eq]
  refine Eq.trans ?_ (float_bit _)
  pointwise [k0_pay19, hit4_apply s x9]

/-- The logits of a column, as the second part reads them. -/
theorem bLogits_apply (e : Fin 8) : bLogits (F := Ideal) s x9 (ix2 e l) = lg s x9 l e := by
  unfold bLogits
  rw [whole2048_eq, wholeGate_eq]
  exact logits_apply s x9 l e

/-- The greatest logit, as the second part reads it. -/
theorem bMax_apply : bMax (F := Ideal) s x9 (ix2 0 l) = topOf (lg s x9 l) := by
  unfold bMax
  rw [whole2048_eq, wholeGate_eq]
  exact max_apply s x9 l

/-- Whether one of the first five experts has the greatest logit, as the second part reads it. -/
theorem bTaken4_apply : bTaken4 (F := Ideal) s x9 (ix2 0 l) = bit (TopBefore (lg s x9 l) 5) := by
  unfold bTaken4
  rw [whole2048_eq, wholeGate_eq]
  exact taken5_apply s x9 l

/-- The logit of expert 5, as the second part reads it. -/
theorem bLogit5_apply : bLogit5 (F := Ideal) s x9 (ix2 0 l) = lg s x9 l 5 := by
  unfold bLogit5
  rw [whole2048_eq, wholeGate_eq]
  pointwise [k0_pay20, logits_apply s x9]

/-- Whether expert 5 is the first with the greatest logit, as a bit. -/
theorem hit5_apply : k0_pay21 (F := Ideal) (bMax (F := Ideal) s x9) (bTaken4 (F := Ideal) s x9) (bLogit5 (F := Ideal) s x9) (ix2 0 l) = bit (FirstTop (lg s x9 l) 5) := by
  rw [← hit_step (lg s x9 l) 5 (n := 5) rfl]
  pointwise [k0_pay21, bMax_apply s x9, bTaken4_apply s x9, bLogit5_apply s x9, ofBool_bit]

/-- Whether one of the first 6 experts has the greatest logit, as a bit. -/
theorem taken6_apply : k0_pay22 (F := Ideal) (bMax (F := Ideal) s x9) (bTaken4 (F := Ideal) s x9) (bLogit5 (F := Ideal) s x9) (ix2 0 l) = bit (TopBefore (lg s x9 l) 6) := by
  rw [← taken_step (lg s x9 l) 5 (n := 5) (k := 6) rfl rfl]
  pointwise [k0_pay22, bTaken4_apply s x9, hit5_apply s x9]

/-- Whether expert 6 is the first with the greatest logit, as a bit. -/
theorem hit6_apply : k0_pay24 (F := Ideal) (bLogits (F := Ideal) s x9) (bMax (F := Ideal) s x9) (bTaken4 (F := Ideal) s x9) (bLogit5 (F := Ideal) s x9) (ix2 0 l)
    = bit (FirstTop (lg s x9 l) 6) := by
  rw [← hit_step (lg s x9 l) 6 (n := 6) rfl]
  pointwise [k0_pay24, bLogits_apply s x9, bMax_apply s x9, taken6_apply s x9, ofBool_bit]

/-- Mask 5. -/
theorem bMask5_apply : bMask5 (F := Ideal) s x9 (ix2 0 l) = maskOf (lg s x9 l) 5 := by
  refine Eq.trans ?_ (float_bit _)
  pointwise [bMask5, k0_pay23, hit5_apply s x9]

/-- Mask 6. -/
theorem bMask6_apply : bMask6 (F := Ideal) s x9 (ix2 0 l) = maskOf (lg s x9 l) 6 := by
  refine Eq.trans ?_ (float_bit _)
  pointwise [bMask6, k0_pay25, hit6_apply s x9]

/-- Mask 7. -/
theorem bMask7_apply : bMask7 (F := Ideal) s x9 (ix2 0 l) = maskOf (lg s x9 l) 7 := by
  refine Eq.trans ?_ (float_bit _)
  rw [← hit_step (lg s x9 l) 7 (n := 7) rfl, ← taken_step (lg s x9 l) 6 (n := 6) (k := 7) rfl rfl]
  pointwise [bMask7, k0_pay26, bLogits_apply s x9, bMax_apply s x9, taken6_apply s x9, hit6_apply s x9, ofBool_bit]

end Cert.KernelIdeal.Hand

end
-- ==== Proof.StackBlock.lean ====
/- The column the kernel multiplies the stacked weights by: eight masked copies, the masks, and zeros. -/
module

public import proofs.«01_k».proof.Proof.MaskBlock

@[expose] public section

set_option maxRecDepth 16384

noncomputable section

namespace Cert.KernelIdeal.Hand

open Cert.KernelIdeal Cert.KernelIdeal.Gen
open Idealize.ShloMosaic Idealize.ShloMosaic.TcCoe Idealize.SL.Sem

/-- Row `x` of the stack a layer reads: the eight masked copies of the 96 values `v`, the eight masks, eight zeros. -/
def stacked (m : Fin 8 → EReal) (v : Fin 96 → EReal) (x : Fin 784) : EReal :=
  if h : x.val < 96 then m 0 * v ⟨x.val, h⟩ else
  if h : x.val - 96 < 96 then m 1 * v ⟨x.val - 96, h⟩ else
  if h : x.val - 96 - 96 < 96 then m 2 * v ⟨x.val - 96 - 96, h⟩ else
  if h : x.val - 96 - 96 - 96 < 96 then m 3 * v ⟨x.val - 96 - 96 - 96, h⟩ else
  if h : x.val - 96 - 96 - 96 - 96 < 96 then m 4 * v ⟨x.val - 96 - 96 - 96 - 96, h⟩ else
  if h : x.val - 96 - 96 - 96 - 96 - 96 < 96 then m 5 * v ⟨x.val - 96 - 96 - 96 - 96 - 96, h⟩ else
  if h : x.val - 96 - 96 - 96 - 96 - 96 - 96 < 96 then m 6 * v ⟨x.val - 96 - 96 - 96 - 96 - 96 - 96, h⟩ else
  if h : x.val - 96 - 96 - 96 - 96 - 96 - 96 - 96 < 96 then m 7 * v ⟨x.val - 96 - 96 - 96 - 96 - 96 - 96 - 96, h⟩ else
  if h : x.val - 96 - 96 - 96 - 96 - 96 - 96 - 96 - 96 < 1 then m 0 else
  if h : x.val - 96 - 96 - 96 - 96 - 96 - 96 - 96 - 96 - 1 < 1 then m 1 else
  if h : x.val - 96 - 96 - 96 - 96 - 96 - 96 - 96 - 96 - 1 - 1 < 1 then m 2 else
  if h : x.val - 96 - 96 - 96 - 96 - 96 - 96 - 96 - 96 - 1 - 1 - 1 < 1 then m 3 else
  if h : x.val - 96 - 96 - 96 - 96 - 96 - 96 - 96 - 96 - 1 - 1 - 1 - 1 < 1 then m 4 else
  if h : x.val - 96 - 96 - 96 - 96 - 96 - 96 - 96 - 96 - 1 - 1 - 1 - 1 - 1 < 1 then m 5 else
  if h : x.val - 96 - 96 - 96 - 96 - 96 - 96 - 96 - 96 - 1 - 1 - 1 - 1 - 1 - 1 < 1 then m 6 else
  if h : x.val - 96 - 96 - 96 - 96 - 96 - 96 - 96 - 96 - 1 - 1 - 1 - 1 - 1 - 1 - 1 < 1 then m 7 else
  0

/-- Adding up over the 784 rows is adding up the eight groups of 96, the eight rows after them and the last eight. -/
theorem sum_rows (f : Fin 784 → EReal) : ∑ x, f x
    = (∑ e : Fin 8, ∑ k : Fin 96, f ⟨96 * e.val + k.val, by omega⟩) + ((∑ e : Fin 8, f ⟨768 + e.val, by omega⟩)
      + ∑ e : Fin 8, f ⟨776 + e.val, by omega⟩) := by
  have h1 : ∑ x, f x = (∑ x : Fin (8 * 96), f ⟨x.val, by omega⟩) + ∑ x : Fin (8 + 8), f ⟨768 + x.val, by omega⟩ :=
    Fin.sum_univ_add (a := 768) (b := 16) f
  have h2 : ∑ x : Fin (8 + 8), f ⟨768 + x.val, by omega⟩
      = (∑ e : Fin 8, f ⟨768 + e.val, by omega⟩) + ∑ e : Fin 8, f ⟨776 + e.val, by omega⟩ := by
    rw [Fin.sum_univ_add]
    refine congrArg₂ (· + ·) rfl (Finset.sum_congr rfl fun e _ => congrArg f (Fin.ext ?_))
    show 768 + (8 + e.val) = 776 + e.val
    omega
  have h3 : ∑ x : Fin (8 * 96), f ⟨x.val, by omega⟩ = ∑ e : Fin 8, ∑ k : Fin 96, f ⟨96 * e.val + k.val, by omega⟩ := by
    rw [← Fintype.sum_prod_type' (f := fun (e : Fin 8) (k : Fin 96) => f ⟨96 * e.val + k.val, by omega⟩)]
    refine (Fintype.sum_equiv finProdFinEquiv _ _ fun p => congrArg f (Fin.ext ?_)).symm
    show 96 * p.1.val + p.2.val = p.2.val + 96 * p.1.val
    omega
  rw [h1, h2, h3]

variable (m : Fin 8 → EReal) (v : Fin 96 → EReal)

/-- Copy 0 of the values in the stacked column. -/
theorem stacked_copy0 (k : Fin 96) (x : Fin 784) (hx : x.val = 96 * 0 + k.val) : stacked m v x = m 0 * v k := by
  unfold stacked
  rw [dif_pos (by omega : x.val < 96)]
  exact congrArg (fun q => m 0 * v q) (Fin.ext (by show x.val = k.val; omega))

/-- Copy 1 of the values in the stacked column. -/
theorem stacked_copy1 (k : Fin 96) (x : Fin 784) (hx : x.val = 96 * 1 + k.val) : stacked m v x = m 1 * v k := by
  unfold stacked
  rw [dif_neg (by omega : ¬ x.val < 96), dif_pos (by omega : x.val - 96 < 96)]
  exact congrArg (fun q => m 1 * v q) (Fin.ext (by show x.val - 96 = k.val; omega))

/-- Copy 2 of the values in the stacked column. -/
theorem stacked_copy2 (k : Fin 96) (x : Fin 784) (hx : x.val = 96 * 2 + k.val) : stacked m v x = m 2 * v k := by
  unfold stacked
  rw [dif_neg (by omega : ¬ x.val < 96), dif_neg (by omega : ¬ x.val - 96 < 96), dif_pos (by omega : x.val - 96 - 96 < 96)]
  exact congrArg (fun q => m 2 * v q) (Fin.ext (by show x.val - 96 - 96 = k.val; omega))

/-- Copy 3 of the values in the stacked column. -/
theorem stacked_copy3 (k : Fin 96) (x : Fin 784) (hx : x.val = 96 * 3 + k.val) : stacked m v x = m 3 * v k := by
  unfold stacked
  rw [dif_neg (by omega : ¬ x.val < 96), dif_neg (by omega : ¬ x.val - 96 < 96), dif_neg (by omega : ¬ x.val - 96 - 96 < 96), dif_pos (by omega : x.val - 96 - 96 - 96 < 96)]
  exact congrArg (fun q => m 3 * v q) (Fin.ext (by show x.val - 96 - 96 - 96 = k.val; omega))

/-- Copy 4 of the values in the stacked column. -/
theorem stacked_copy4 (k : Fin 96) (x : Fin 784) (hx : x.val = 96 * 4 + k.val) : stacked m v x = m 4 * v k := by
  unfold stacked
  rw [dif_neg (by omega : ¬ x.val < 96), dif_neg (by omega : ¬ x.val - 96 < 96), dif_neg (by omega : ¬ x.val - 96 - 96 < 96), dif_neg (by omega : ¬ x.val - 96 - 96 - 96 < 96), dif_pos (by omega : x.val - 96 - 96 - 96 - 96 < 96)]
  exact congrArg (fun q => m 4 * v q) (Fin.ext (by show x.val - 96 - 96 - 96 - 96 = k.val; omega))

/-- Copy 5 of the values in the stacked column. -/
theorem stacked_copy5 (k : Fin 96) (x : Fin 784) (hx : x.val = 96 * 5 + k.val) : stacked m v x = m 5 * v k := by
  unfold stacked
  rw [dif_neg (by omega : ¬ x.val < 96), dif_neg (by omega : ¬ x.val - 96 < 96), dif_neg (by omega : ¬ x.val - 96 - 96 < 96), dif_neg (by omega : ¬ x.val - 96 - 96 - 96 < 96), dif_neg (by omega : ¬ x.val - 96 - 96 - 96 - 96 < 96), dif_pos (by omega : x.val - 96 - 96 - 96 - 96 - 96 < 96)]
  exact congrArg (fun q => m 5 * v q) (Fin.ext (by show x.val - 96 - 96 - 96 - 96 - 96 = k.val; omega))

/-- Copy 6 of the values in the stacked column. -/
theorem stacked_copy6 (k : Fin 96) (x : Fin 784) (hx : x.val = 96 * 6 + k.val) : stacked m v x = m 6 * v k := by
  unfold stacked
  rw [dif_neg (by omega : ¬ x.val < 96), dif_neg (by omega : ¬ x.val - 96 < 96), dif_neg (by omega : ¬ x.val - 96 - 96 < 96), dif_neg (by omega : ¬ x.val - 96 - 96 - 96 < 96), dif_neg (by omega : ¬ x.val - 96 - 96 - 96 - 96 < 96), dif_neg (by omega : ¬ x.val - 96 - 96 - 96 - 96 - 96 < 96), dif_pos (by omega : x.val - 96 - 96 - 96 - 96 - 96 - 96 < 96)]
  exact congrArg (fun q => m 6 * v q) (Fin.ext (by show x.val - 96 - 96 - 96 - 96 - 96 - 96 = k.val; omega))

/-- Copy 7 of the values in the stacked column. -/
theorem stacked_copy7 (k : Fin 96) (x : Fin 784) (hx : x.val = 96 * 7 + k.val) : stacked m v x = m 7 * v k := by
  unfold stacked
  rw [dif_neg (by omega : ¬ x.val < 96), dif_neg (by omega : ¬ x.val - 96 < 96), dif_neg (by omega : ¬ x.val - 96 - 96 < 96), dif_neg (by omega : ¬ x.val - 96 - 96 - 96 < 96), dif_neg (by omega : ¬ x.val - 96 - 96 - 96 - 96 < 96), dif_neg (by omega : ¬ x.val - 96 - 96 - 96 - 96 - 96 < 96), dif_neg (by omega : ¬ x.val - 96 - 96 - 96 - 96 - 96 - 96 < 96), dif_pos (by omega : x.val - 96 - 96 - 96 - 96 - 96 - 96 - 96 < 96)]
  exact congrArg (fun q => m 7 * v q) (Fin.ext (by show x.val - 96 - 96 - 96 - 96 - 96 - 96 - 96 = k.val; omega))

/-- Mask 0 in the stacked column. -/
theorem stacked_mask0 (x : Fin 784) (hx : x.val = 768) : stacked m v x = m 0 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_pos (by omega : x.val - 96 - 96 - 96 - 96 - 96 - 96 - 96 - 96 < 1)]

/-- Mask 1 in the stacked column. -/
theorem stacked_mask1 (x : Fin 784) (hx : x.val = 769) : stacked m v x = m 1 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_pos (by omega : x.val - 96 - 96 - 96 - 96 - 96 - 96 - 96 - 96 - 1 < 1)]

/-- Mask 2 in the stacked column. -/
theorem stacked_mask2 (x : Fin 784) (hx : x.val = 770) : stacked m v x = m 2 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_neg (by omega : ¬ x.val - 96 - 96 - 96 - 96 - 96 - 96 - 96 - 96 - 1 < 1),
    dif_pos (by omega : x.val - 96 - 96 - 96 - 96 - 96 - 96 - 96 - 96 - 1 - 1 < 1)]

/-- Mask 3 in the stacked column. -/
theorem stacked_mask3 (x : Fin 784) (hx : x.val = 771) : stacked m v x = m 3 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_neg (by omega : ¬ x.val - 96 - 96 - 96 - 96 - 96 - 96 - 96 - 96 - 1 < 1),
    dif_neg (by omega : ¬ x.val - 96 - 96 - 96 - 96 - 96 - 96 - 96 - 96 - 1 - 1 < 1),
    dif_pos (by omega : x.val - 96 - 96 - 96 - 96 - 96 - 96 - 96 - 96 - 1 - 1 - 1 < 1)]

/-- Mask 4 in the stacked column. -/
theorem stacked_mask4 (x : Fin 784) (hx : x.val = 772) : stacked m v x = m 4 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_neg (by omega : ¬ x.val - 96 - 96 - 96 - 96 - 96 - 96 - 96 - 96 - 1 < 1),
    dif_neg (by omega : ¬ x.val - 96 - 96 - 96 - 96 - 96 - 96 - 96 - 96 - 1 - 1 < 1),
    dif_neg (by omega : ¬ x.val - 96 - 96 - 96 - 96 - 96 - 96 - 96 - 96 - 1 - 1 - 1 < 1),
    dif_pos (by omega : x.val - 96 - 96 - 96 - 96 - 96 - 96 - 96 - 96 - 1 - 1 - 1 - 1 < 1)]

/-- Mask 5 in the stacked column. -/
theorem stacked_mask5 (x : Fin 784) (hx : x.val = 773) : stacked m v x = m 5 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_neg (by omega : ¬ x.val - 96 - 96 - 96 - 96 - 96 - 96 - 96 - 96 - 1 < 1),
    dif_neg (by omega : ¬ x.val - 96 - 96 - 96 - 96 - 96 - 96 - 96 - 96 - 1 - 1 < 1),
    dif_neg (by omega : ¬ x.val - 96 - 96 - 96 - 96 - 96 - 96 - 96 - 96 - 1 - 1 - 1 < 1),
    dif_neg (by omega : ¬ x.val - 96 - 96 - 96 - 96 - 96 - 96 - 96 - 96 - 1 - 1 - 1 - 1 < 1),
    dif_pos (by omega : x.val - 96 - 96 - 96 - 96 - 96 - 96 - 96 - 96 - 1 - 1 - 1 - 1 - 1 < 1)]

/-- Mask 6 in the stacked column. -/
theorem stacked_mask6 (x : Fin 784) (hx : x.val = 774) : stacked m v x = m 6 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_neg (by omega : ¬ x.val - 96 - 96 - 96 - 96 - 96 - 96 - 96 - 96 - 1 < 1),
    dif_neg (by omega : ¬ x.val - 96 - 96 - 96 - 96 - 96 - 96 - 96 - 96 - 1 - 1 < 1),
    dif_neg (by omega : ¬ x.val - 96 - 96 - 96 - 96 - 96 - 96 - 96 - 96 - 1 - 1 - 1 < 1),
    dif_neg (by omega : ¬ x.val - 96 - 96 - 96 - 96 - 96 - 96 - 96 - 96 - 1 - 1 - 1 - 1 < 1),
    dif_neg (by omega : ¬ x.val - 96 - 96 - 96 - 96 - 96 - 96 - 96 - 96 - 1 - 1 - 1 - 1 - 1 < 1),
    dif_pos (by omega : x.val - 96 - 96 - 96 - 96 - 96 - 96 - 96 - 96 - 1 - 1 - 1 - 1 - 1 - 1 < 1)]

/-- Mask 7 in the stacked column. -/
theorem stacked_mask7 (x : Fin 784) (hx : x.val = 775) : stacked m v x = m 7 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_neg (by omega : ¬ x.val - 96 - 96 - 96 - 96 - 96 - 96 - 96 - 96 - 1 < 1),
    dif_neg (by omega : ¬ x.val - 96 - 96 - 96 - 96 - 96 - 96 - 96 - 96 - 1 - 1 < 1),
    dif_neg (by omega : ¬ x.val - 96 - 96 - 96 - 96 - 96 - 96 - 96 - 96 - 1 - 1 - 1 < 1),
    dif_neg (by omega : ¬ x.val - 96 - 96 - 96 - 96 - 96 - 96 - 96 - 96 - 1 - 1 - 1 - 1 < 1),
    dif_neg (by omega : ¬ x.val - 96 - 96 - 96 - 96 - 96 - 96 - 96 - 96 - 1 - 1 - 1 - 1 - 1 < 1),
    dif_neg (by omega : ¬ x.val - 96 - 96 - 96 - 96 - 96 - 96 - 96 - 96 - 1 - 1 - 1 - 1 - 1 - 1 < 1),
    dif_pos (by omega : x.val - 96 - 96 - 96 - 96 - 96 - 96 - 96 - 96 - 1 - 1 - 1 - 1 - 1 - 1 - 1 < 1)]

/-- The end of the stacked column is zero. -/
theorem stacked_zero (x : Fin 784) (hx : 776 ≤ x.val) : stacked m v x = 0 := by
  unfold stacked
  rw [dif_neg (by omega : ¬ x.val < 96),
    dif_neg (by omega : ¬ x.val - 96 < 96),
    dif_neg (by omega : ¬ x.val - 96 - 96 < 96),
    dif_neg (by omega : ¬ x.val - 96 - 96 - 96 < 96),
    dif_neg (by omega : ¬ x.val - 96 - 96 - 96 - 96 < 96),
    dif_neg (by omega : ¬ x.val - 96 - 96 - 96 - 96 - 96 < 96),
    dif_neg (by omega : ¬ x.val - 96 - 96 - 96 - 96 - 96 - 96 < 96),
    dif_neg (by omega : ¬ x.val - 96 - 96 - 96 - 96 - 96 - 96 - 96 < 96),
    dif_neg (by omega : ¬ x.val - 96 - 96 - 96 - 96 - 96 - 96 - 96 - 96 < 1),
    dif_neg (by omega : ¬ x.val - 96 - 96 - 96 - 96 - 96 - 96 - 96 - 96 - 1 < 1),
    dif_neg (by omega : ¬ x.val - 96 - 96 - 96 - 96 - 96 - 96 - 96 - 96 - 1 - 1 < 1),
    dif_neg (by omega : ¬ x.val - 96 - 96 - 96 - 96 - 96 - 96 - 96 - 96 - 1 - 1 - 1 < 1),
    dif_neg (by omega : ¬ x.val - 96 - 96 - 96 - 96 - 96 - 96 - 96 - 96 - 1 - 1 - 1 - 1 < 1),
    dif_neg (by omega : ¬ x.val - 96 - 96 - 96 - 96 - 96 - 96 - 96 - 96 - 1 - 1 - 1 - 1 - 1 < 1),
    dif_neg (by omega : ¬ x.val - 96 - 96 - 96 - 96 - 96 - 96 - 96 - 96 - 1 - 1 - 1 - 1 - 1 - 1 < 1),
    dif_neg (by omega : ¬ x.val - 96 - 96 - 96 - 96 - 96 - 96 - 96 - 96 - 1 - 1 - 1 - 1 - 1 - 1 - 1 < 1)]

/-- A copy of the values in the stacked column, times its mask. -/
theorem stacked_copy (e : Fin 8) (k : Fin 96) (x : Fin 784) (hx : x.val = 96 * e.val + k.val) : stacked m v x = m e * v k := by
  fin_cases e
  · exact stacked_copy0 m v k x hx
  · exact stacked_copy1 m v k x hx
  · exact stacked_copy2 m v k x hx
  · exact stacked_copy3 m v k x hx
  · exact stacked_copy4 m v k x hx
  · exact stacked_copy5 m v k x hx
  · exact stacked_copy6 m v k x hx
  · exact stacked_copy7 m v k x hx

/-- A mask in the stacked column. -/
theorem stacked_mask (e : Fin 8) (x : Fin 784) (hx : x.val = 768 + e.val) : stacked m v x = m e := by
  fin_cases e
  · exact stacked_mask0 m v x hx
  · exact stacked_mask1 m v x hx
  · exact stacked_mask2 m v x hx
  · exact stacked_mask3 m v x hx
  · exact stacked_mask4 m v x hx
  · exact stacked_mask5 m v x hx
  · exact stacked_mask6 m v x hx
  · exact stacked_mask7 m v x hx

/-- What a layer's 784 weights `w` of one output make of the 96 values `v` at expert `e`: its 96 weights against them and
    its bias. -/
def layer (w : Fin 784 → EReal) (v : Fin 96 → EReal) (e : Fin 8) : EReal :=
  (∑ k : Fin 96, w ⟨96 * e.val + k.val, by omega⟩ * v k) + w ⟨768 + e.val, by omega⟩

/-- Where the masks single out expert `e`, the weights against the stack are that expert's layer. -/
theorem sum_stacked (w : Fin 784 → EReal) (e : Fin 8) (he : m e = 1) (hz : ∀ f, f ≠ e → m f = 0) :
    ∑ x, w x * stacked m v x = layer w v e := by
  have h1 : (∑ f : Fin 8, ∑ k : Fin 96, w ⟨96 * f.val + k.val, by omega⟩ * stacked m v ⟨96 * f.val + k.val, by omega⟩)
      = ∑ k : Fin 96, w ⟨96 * e.val + k.val, by omega⟩ * v k := by
    rw [Finset.sum_eq_single e]
    · refine Finset.sum_congr rfl fun k _ => ?_
      rw [stacked_copy m v e k _ rfl, he, one_mul]
    · intro f _ hf
      refine Finset.sum_eq_zero fun k _ => ?_
      rw [stacked_copy m v f k _ rfl, hz f hf, zero_mul, mul_zero]
    · exact fun h => absurd (Finset.mem_univ e) h
  have h2 : (∑ f : Fin 8, w ⟨768 + f.val, by omega⟩ * stacked m v ⟨768 + f.val, by omega⟩) = w ⟨768 + e.val, by omega⟩ := by
    rw [Finset.sum_eq_single e]
    · rw [stacked_mask m v e _ rfl, he, mul_one]
    · intro f _ hf
      rw [stacked_mask m v f _ rfl, hz f hf, mul_zero]
    · exact fun h => absurd (Finset.mem_univ e) h
  have h3 : (∑ f : Fin 8, w ⟨776 + f.val, by omega⟩ * stacked m v ⟨776 + f.val, by omega⟩) = 0 := by
    refine Finset.sum_eq_zero fun f _ => ?_
    rw [stacked_zero m v _ (by show 776 ≤ 776 + f.val; omega), mul_zero]
  rw [sum_rows, h1, h2, h3, add_zero]
  rfl

/-- All of the stacked weights, as loaded, are the stacked weights. -/
theorem whole784_eq (x : FVec Ideal S96x784 .bf16) : whole784 (F := Ideal) x = x := View.ld_unit_zero hz2 _ _

set_option maxHeartbeats 2000000 in
/-- The first layer at an index: the weights against the stack. -/
theorem first_apply (v0 : Vec Ideal S96x2048 .f32) (v2 : FVec Ideal S8x2048 .f32) (v4 : FVec Ideal S1x2048 .f32) (v13 v21 v29 v37 : FVec Ideal S1x2048 .bf16) (v42 : IVec S1x2048 1)
    (v45 : FVec Ideal S1x2048 .bf16) (v46 : FVec Ideal S1x2048 .f32) (v88 : FVec Ideal S96x784 .bf16) (r : Fin 96) (l : Fin 2048)
    (h0 : v13 (ix2 0 l) = m 0) (h1 : v21 (ix2 0 l) = m 1) (h2 : v29 (ix2 0 l) = m 2) (h3 : v37 (ix2 0 l) = m 3) (h4 : v45 (ix2 0 l) = m 4)
    (h5 : k0_pay23 (F := Ideal) v4 v42 v46 (ix2 0 l) = m 5) (h6 : k0_pay25 (F := Ideal) v2 v4 v42 v46 (ix2 0 l) = m 6)
    (h7 : k0_pay26 (F := Ideal) v2 v4 v42 v46 (ix2 0 l) = m 7) :
    k0_pay28 (F := Ideal) v0 v2 v4 v13 v21 v29 v37 v42 v45 v46 v88 (ix2 r l)
      = ∑ x, v88 (ix2 r x) * stacked m (fun k => v0 (ix2 k l)) x := by
  have a0 : ∀ z : Fin 1, v13 (ix2 z l) = m 0 := fun z => (Subsingleton.elim 0 z) ▸ h0
  have a1 : ∀ z : Fin 1, v21 (ix2 z l) = m 1 := fun z => (Subsingleton.elim 0 z) ▸ h1
  have a2 : ∀ z : Fin 1, v29 (ix2 z l) = m 2 := fun z => (Subsingleton.elim 0 z) ▸ h2
  have a3 : ∀ z : Fin 1, v37 (ix2 z l) = m 3 := fun z => (Subsingleton.elim 0 z) ▸ h3
  have a4 : ∀ z : Fin 1, v45 (ix2 z l) = m 4 := fun z => (Subsingleton.elim 0 z) ▸ h4
  unfold k0_pay28
  generalize k0_pay23 (F := Ideal) v4 v42 v46 = p5 at h5 ⊢
  generalize k0_pay25 (F := Ideal) v2 v4 v42 v46 = p6 at h6 ⊢
  generalize k0_pay26 (F := Ideal) v2 v4 v42 v46 = p7 at h7 ⊢
  have a5 : ∀ z : Fin 1, p5 (ix2 z l) = m 5 := fun z => (Subsingleton.elim 0 z) ▸ h5
  have a6 : ∀ z : Fin 1, p6 (ix2 z l) = m 6 := fun z => (Subsingleton.elim 0 z) ▸ h6
  have a7 : ∀ z : Fin 1, p7 (ix2 z l) = m 7 := fun z => (Subsingleton.elim 0 z) ▸ h7
  pointwise [k0_pay27, a0, a1, a2, a3, a4, a5, a6, a7]
  rfl

/-- The second layer at an index: the weights against the stack of the activations. -/
theorem second_apply (v13 v21 v29 v37 v45 v53 v61 v68 : FVec Ideal S1x2048 .bf16) (v92 v95 : FVec Ideal S96x2048 .f32) (v117 : FVec Ideal S96x784 .bf16)
    (r : Fin 96) (l : Fin 2048)
    (h0 : v13 (ix2 0 l) = m 0) (h1 : v21 (ix2 0 l) = m 1) (h2 : v29 (ix2 0 l) = m 2) (h3 : v37 (ix2 0 l) = m 3) (h4 : v45 (ix2 0 l) = m 4)
    (h5 : v53 (ix2 0 l) = m 5) (h6 : v61 (ix2 0 l) = m 6) (h7 : v68 (ix2 0 l) = m 7) :
    k0_pay32 (F := Ideal) v13 v21 v29 v37 v45 v53 v61 v68 (k0_pay27 (F := Ideal)) v92 v95 (k0_pay31 (F := Ideal)) v117 (ix2 r l)
      = ∑ x, v117 (ix2 r x) * stacked m (fun k => v92 (ix2 k l) * (1 + v95 (ix2 k l))) x := by
  have a0 : ∀ z : Fin 1, v13 (ix2 z l) = m 0 := fun z => (Subsingleton.elim 0 z) ▸ h0
  have a1 : ∀ z : Fin 1, v21 (ix2 z l) = m 1 := fun z => (Subsingleton.elim 0 z) ▸ h1
  have a2 : ∀ z : Fin 1, v29 (ix2 z l) = m 2 := fun z => (Subsingleton.elim 0 z) ▸ h2
  have a3 : ∀ z : Fin 1, v37 (ix2 z l) = m 3 := fun z => (Subsingleton.elim 0 z) ▸ h3
  have a4 : ∀ z : Fin 1, v45 (ix2 z l) = m 4 := fun z => (Subsingleton.elim 0 z) ▸ h4
  have a5 : ∀ z : Fin 1, v53 (ix2 z l) = m 5 := fun z => (Subsingleton.elim 0 z) ▸ h5
  have a6 : ∀ z : Fin 1, v61 (ix2 z l) = m 6 := fun z => (Subsingleton.elim 0 z) ▸ h6
  have a7 : ∀ z : Fin 1, v68 (ix2 z l) = m 7 := fun z => (Subsingleton.elim 0 z) ▸ h7
  pointwise [k0_pay32, k0_pay27, k0_pay31, a0, a1, a2, a3, a4, a5, a6, a7]
  rfl

end Cert.KernelIdeal.Hand

end
-- ==== Proof.Consts.lean ====
/- The real numbers the programs' constants stand for. -/
module

public import proofs.«01_k».proof.Proof.NormBlock
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe Idealize.SL.Sem

/-- The pattern of 96, the number of channels. -/
theorem ofBits_96 : Ideal.ofBits .f32 0x42C00000#32 = ((96 : ℝ) : EReal) := by
  simp [Ideal.ofBits, Ideal.ieee, -EReal.coe_mul]; norm_num

/-- The layer norm's small constant is a positive real. -/
theorem ofBits_eps : ∃ q : ℝ, 0 < q ∧ Ideal.ofBits .f32 0x358637BD#32 = (q : EReal) := by
  refine ⟨_, ?_, by simp [Ideal.ofBits, Ideal.ieee, -EReal.coe_mul]; rfl⟩
  positivity

/-- The pattern a maximum starts from is the least extended real. -/
theorem ofBits_bot : Ideal.ofBits .f32 0xFF800000#32 = (⊥ : EReal) := by
  simp [Ideal.ofBits, Ideal.ieee]

/-- The pattern of infinity is the greatest extended real. -/
theorem ofBits_top : Ideal.ofBits .f32 0x7F800000#32 = (⊤ : EReal) := by
  simp [Ideal.ofBits, Ideal.ieee]

/-- The pattern of one half. -/
theorem ofBits_half : Ideal.ofBits .f32 0x3F000000#32 = (((2 : ℝ)⁻¹ : ℝ) : EReal) := by
  simp [Ideal.ofBits, Ideal.ieee, -EReal.coe_mul]; norm_num

/-- The named constant of the kernel, the root of one half. -/
theorem named_rsqrt2 : Named.named (F := Ideal) Cert.KernelIdeal.κ "rsqrt2" (φ := .f32) 0x3F3504F3#32 = ((Real.sqrt 2⁻¹ : ℝ) : EReal) :=
  IdealRules.named_const.ideal_named_scalar _ _ _ _ rfl

end Cert.KernelIdeal.Hand

end
-- ==== Proof.ExpertBlock.lean ====
/- The two layers of the chosen expert, as a grid point computes them over the stacked, masked columns. -/
module

public import proofs.«01_k».proof.Proof.StackBlock
public import proofs.«01_k».proof.Proof.Consts

@[expose] public section

set_option maxRecDepth 16384

noncomputable section

namespace Cert.KernelIdeal.Hand

open Cert.KernelIdeal Cert.KernelIdeal.Gen
open Idealize.ShloMosaic Idealize.ShloMosaic.TcCoe Idealize.SL.Sem
open scoped Classical

/-- Some expert holds the greatest logit, and one of those is the first. -/
theorem exists_firstTop (L : Fin 8 → EReal) : ∃ e, FirstTop L e := by
  have hbot : Ideal.ofBits .f32 0xFF800000#32 = (⊥ : EReal) := ofBits_bot
  have htop : topOf L = Finset.univ.sup L := by
    unfold topOf
    rw [hbot]
    rfl
  obtain ⟨i, -, hi⟩ := Finset.exists_mem_eq_sup Finset.univ ⟨(0 : Fin 8), Finset.mem_univ _⟩ L
  have hex : ∃ n : ℕ, ∃ h : n < 8, L ⟨n, h⟩ = topOf L := ⟨i.val, i.isLt, by rw [htop, hi]⟩
  refine ⟨⟨Nat.find hex, (Nat.find_spec hex).1⟩, (Nat.find_spec hex).2, fun f hf h => ?_⟩
  exact Nat.find_min hex (show f.val < Nat.find hex from hf) ⟨f.isLt, h⟩

/-- No two experts are both the first. -/
theorem firstTop_unique {L : Fin 8 → EReal} {e f : Fin 8} (he : FirstTop L e) (hf : FirstTop L f) : f = e := by
  rcases lt_trichotomy f e with h | h | h
  · exact absurd hf.1 (he.2 f h)
  · exact h
  · exact absurd he.1 (hf.2 e h)

/-- The mask of the expert taken is one. -/
theorem maskOf_one {L : Fin 8 → EReal} {e : Fin 8} (he : FirstTop L e) : maskOf L e = 1 := if_pos he

/-- The mask of every other expert is zero. -/
theorem maskOf_zero {L : Fin 8 → EReal} {e : Fin 8} (he : FirstTop L e) (f : Fin 8) (hf : f ≠ e) : maskOf L f = 0 :=
  if_neg fun h => hf (firstTop_unique he h)

/-- The activation the kernel applies to a value. -/
def geluK (h : EReal) : EReal :=
  Ideal.ofBits .f32 0x3F000000#32 * h * (1 + Ideal.erf (h * ((Real.sqrt 2⁻¹ : ℝ) : EReal)))

variable (s : FVec Ideal S96x2048 .f32) (x9 : FVec Ideal S8x96 .f32) (x10 x11 : FVec Ideal S96x784 .bf16) (r : Fin 96) (l : Fin 2048)

/-- The first layer's values, at an index. -/
theorem hidden_apply {e : Fin 8} (he : FirstTop (lg s x9 l) e) :
    k0_pay28 (F := Ideal) (whole2048 s) (bLogits s x9) (bMax s x9) (bMask0 s x9) (bMask1 s x9) (bMask2 s x9) (bMask3 s x9) (bTaken4 (F := Ideal) s x9)
      (bMask4 s x9) (bLogit5 s x9) (whole784 x10) (ix2 r l)
      = layer (fun x => x10 (ix2 r x)) (fun k => s (ix2 k l)) e := by
  rw [whole784_eq, whole2048_eq, first_apply (maskOf (lg s x9 l)) _ _ _ _ _ _ _ _ _ _ _ r l
    (bMask0_apply s x9 l) (bMask1_apply s x9 l) (bMask2_apply s x9 l) (bMask3_apply s x9 l) (bMask4_apply s x9 l)
    (bMask5_apply s x9 l) (bMask6_apply s x9 l) (bMask7_apply s x9 l)]
  exact sum_stacked _ _ _ e (maskOf_one he) (maskOf_zero he)

/-- Half the hidden value. -/
theorem bHalf_apply {e : Fin 8} (he : FirstTop (lg s x9 l) e) :
    bHalf (F := Ideal) s x9 x10 (ix2 r l)
      = Ideal.ofBits .f32 0x3F000000#32 * layer (fun x => x10 (ix2 r x)) (fun k => s (ix2 k l)) e := by
  rw [← hidden_apply s x9 x10 r l he]
  rfl

/-- The second factor of the gelu. -/
theorem bErf_apply {e : Fin 8} (he : FirstTop (lg s x9 l) e) :
    bErf (F := Ideal) s x9 x10 (ix2 r l)
      = Ideal.erf (layer (fun x => x10 (ix2 r x)) (fun k => s (ix2 k l)) e * ((Real.sqrt 2⁻¹ : ℝ) : EReal)) := by
  rw [← hidden_apply s x9 x10 r l he]
  unfold bErf k0_pay30
  generalize k0_pay28 (F := Ideal) (whole2048 s) _ _ _ _ _ _ _ _ _ _ = q
  pointwise
  rw [named_rsqrt2]
  rfl

/-- What the kernel gives at a position whose first greatest logit is expert `e`'s: that expert's two layers of the
    position's 96 values. -/
def expertK (x10 x11 : FVec Ideal S96x784 .bf16) (v : Fin 96 → EReal) (e : Fin 8) (r : Fin 96) : EReal :=
  layer (fun x => x11 (ix2 r x)) (fun k => geluK (layer (fun x => x10 (ix2 k x)) v e)) e

/-- The chosen expert's output at an index. -/
theorem bExpert_apply {e : Fin 8} (he : FirstTop (lg s x9 l) e) :
    bExpert (F := Ideal) s x9 x10 x11 (ix2 r l) = expertK x10 x11 (fun k => s (ix2 k l)) e r := by
  unfold bExpert
  rw [whole784_eq, second_apply (maskOf (lg s x9 l)) _ _ _ _ _ _ _ _ _ _ _ r l
    (bMask0_apply s x9 l) (bMask1_apply s x9 l) (bMask2_apply s x9 l) (bMask3_apply s x9 l) (bMask4_apply s x9 l)
    (bMask5_apply s x9 l) (bMask6_apply s x9 l) (bMask7_apply s x9 l)]
  rw [sum_stacked _ _ _ e (maskOf_one he) (maskOf_zero he)]
  unfold expertK
  refine congrArg (fun q => layer _ q e) (funext fun k => ?_)
  rw [bHalf_apply s x9 x10 k l he, bErf_apply s x9 x10 k l he]
  rfl

/-- The chosen expert's output, as kept for the next point. -/
theorem bKeep_apply {e : Fin 8} (he : FirstTop (lg s x9 l) e) :
    bKeep (F := Ideal) s x9 x10 x11 (ix2 r l) = expertK x10 x11 (fun k => s (ix2 k l)) e r := by
  rw [← bExpert_apply s x9 x10 x11 r l he]
  unfold bKeep
  generalize bExpert (F := Ideal) s x9 x10 x11 = q
  pointwise [k0_pay34]

end Cert.KernelIdeal.Hand

end
-- ==== Proof.OutBlock.lean ====
/- The output block a grid point writes: rows of the values kept and of the values just computed, scaled and added to the image. -/
module

public import proofs.«01_k».proof.Proof.ExpertBlock

@[expose] public section

set_option maxRecDepth 16384

noncomputable section

namespace Cert.KernelIdeal.Hand

open Cert.KernelIdeal Cert.KernelIdeal.Gen
open Idealize.ShloMosaic Idealize.ShloMosaic.TcCoe Idealize.SL.Sem

variable (s y : FVec Ideal S96x2048 .f32) (x4 : FVec Ideal S96x1792 .f32) (x9 : FVec Ideal S8x96 .f32)
    (x10 x11 : FVec Ideal S96x784 .bf16) (x12 : FVec Ideal S96x1 .f32) (r : Fin 96)

/-- The column of the two blocks' outputs the output block's position `p` takes. -/
def pick (y z : Fin 2048 → EReal) (p : Fin 1792) : EReal :=
  if h : p.val < 1120 then y ⟨256 * (p.val / 224) + 771 + p.val % 224, by omega⟩
  else z ⟨256 * (p.val / 224 - 5) + 3 + p.val % 224, by omega⟩

/-- A place of the first five rows is read from the kept values. -/
theorem pick_y (y z : Fin 2048 → EReal) (p : Fin 1792) (h : p.val < 1120) :
    pick y z p = y ⟨256 * (p.val / 224) + 771 + p.val % 224, by omega⟩ := dif_pos h

/-- A place of the last three rows is read from the new values. -/
theorem pick_z (y z : Fin 2048 → EReal) (p : Fin 1792) (h : ¬ p.val < 1120) :
    pick y z p = z ⟨256 * (p.val / 224 - 5) + 3 + p.val % 224, by omega⟩ := dif_neg h

/-- The output block at an index: the image there, and the column of the experts' outputs it takes, scaled. -/
theorem bOut_apply (p : Fin 1792) : bOut (F := Ideal) s y x4 x9 x10 x11 x12 (ix2 r p)
    = x4 (ix2 r p) + x12 (ix2 r 0) * pick (fun l => y (ix2 r l)) (fun l => bExpert (F := Ideal) s x9 x10 x11 (ix2 r l)) p := by
  unfold bOut k0_pay33
  have hw : k0_pay32 (F := Ideal) (bMask0 (F := Ideal) s x9) (bMask1 (F := Ideal) s x9) (bMask2 (F := Ideal) s x9) (bMask3 (F := Ideal) s x9) (bMask4 (F := Ideal) s x9) (bMask5 (F := Ideal) s x9) (bMask6 (F := Ideal) s x9) (bMask7 (F := Ideal) s x9)
    k0_pay27 (bHalf (F := Ideal) s x9 x10) (bErf (F := Ideal) s x9 x10) k0_pay31 (whole784 (F := Ideal) x11) = bExpert (F := Ideal) s x9 x10 x11 := rfl
  rw [hw]
  generalize bExpert (F := Ideal) s x9 x10 x11 = z
  rw [wholeCol_eq]
  pointwise
  refine congrArg (fun q => x4 (ix2 r p) + x12 (ix2 r 0) * q) ?_
  have hp := p.isLt
  by_cases h0 : p.val < 224
  · rw [dif_pos (by omega : p.val < 224), pick_y _ _ p (by omega)]
    exact congrArg (fun q => y (ix2 r q)) (Fin.ext (show 771 + p.val = 256 * (p.val / 224) + 771 + p.val % 224 by omega))
  by_cases h1 : p.val < 448
  · rw [dif_neg (by omega : ¬ p.val < 224),
      dif_pos (by omega : p.val - 224 < 224), pick_y _ _ p (by omega)]
    exact congrArg (fun q => y (ix2 r q)) (Fin.ext (show 1027 + (p.val - 224) = 256 * (p.val / 224) + 771 + p.val % 224 by omega))
  by_cases h2 : p.val < 672
  · rw [dif_neg (by omega : ¬ p.val < 224),
      dif_neg (by omega : ¬ p.val - 224 < 224),
      dif_pos (by omega : p.val - 224 - 224 < 224), pick_y _ _ p (by omega)]
    exact congrArg (fun q => y (ix2 r q)) (Fin.ext (show 1283 + (p.val - 224 - 224) = 256 * (p.val / 224) + 771 + p.val % 224 by omega))
  by_cases h3 : p.val < 896
  · rw [dif_neg (by omega : ¬ p.val < 224),
      dif_neg (by omega : ¬ p.val - 224 < 224),
      dif_neg (by omega : ¬ p.val - 224 - 224 < 224),
      dif_pos (by omega : p.val - 224 - 224 - 224 < 224), pick_y _ _ p (by omega)]
    exact congrArg (fun q => y (ix2 r q)) (Fin.ext (show 1539 + (p.val - 224 - 224 - 224) = 256 * (p.val / 224) + 771 + p.val % 224 by omega))
  by_cases h4 : p.val < 1120
  · rw [dif_neg (by omega : ¬ p.val < 224),
      dif_neg (by omega : ¬ p.val - 224 < 224),
      dif_neg (by omega : ¬ p.val - 224 - 224 < 224),
      dif_neg (by omega : ¬ p.val - 224 - 224 - 224 < 224),
      dif_pos (by omega : p.val - 224 - 224 - 224 - 224 < 224), pick_y _ _ p (by omega)]
    exact congrArg (fun q => y (ix2 r q)) (Fin.ext (show 1795 + (p.val - 224 - 224 - 224 - 224) = 256 * (p.val / 224) + 771 + p.val % 224 by omega))
  by_cases h5 : p.val < 1344
  · rw [dif_neg (by omega : ¬ p.val < 224),
      dif_neg (by omega : ¬ p.val - 224 < 224),
      dif_neg (by omega : ¬ p.val - 224 - 224 < 224),
      dif_neg (by omega : ¬ p.val - 224 - 224 - 224 < 224),
      dif_neg (by omega : ¬ p.val - 224 - 224 - 224 - 224 < 224),
      dif_pos (by omega : p.val - 224 - 224 - 224 - 224 - 224 < 224), pick_z _ _ p (by omega)]
    exact congrArg (fun q => z (ix2 r q)) (Fin.ext (show 3 + (p.val - 224 - 224 - 224 - 224 - 224) = 256 * (p.val / 224 - 5) + 3 + p.val % 224 by omega))
  by_cases h6 : p.val < 1568
  · rw [dif_neg (by omega : ¬ p.val < 224),
      dif_neg (by omega : ¬ p.val - 224 < 224),
      dif_neg (by omega : ¬ p.val - 224 - 224 < 224),
      dif_neg (by omega : ¬ p.val - 224 - 224 - 224 < 224),
      dif_neg (by omega : ¬ p.val - 224 - 224 - 224 - 224 < 224),
      dif_neg (by omega : ¬ p.val - 224 - 224 - 224 - 224 - 224 < 224),
      dif_pos (by omega : p.val - 224 - 224 - 224 - 224 - 224 - 224 < 224), pick_z _ _ p (by omega)]
    exact congrArg (fun q => z (ix2 r q)) (Fin.ext (show 259 + (p.val - 224 - 224 - 224 - 224 - 224 - 224) = 256 * (p.val / 224 - 5) + 3 + p.val % 224 by omega))
  · rw [dif_neg (by omega : ¬ p.val < 224),
      dif_neg (by omega : ¬ p.val - 224 < 224),
      dif_neg (by omega : ¬ p.val - 224 - 224 < 224),
      dif_neg (by omega : ¬ p.val - 224 - 224 - 224 < 224),
      dif_neg (by omega : ¬ p.val - 224 - 224 - 224 - 224 < 224),
      dif_neg (by omega : ¬ p.val - 224 - 224 - 224 - 224 - 224 < 224),
      dif_neg (by omega : ¬ p.val - 224 - 224 - 224 - 224 - 224 - 224 < 224), pick_z _ _ p (by omega)]
    exact congrArg (fun q => z (ix2 r q)) (Fin.ext (show 515 + (p.val - 224 - 224 - 224 - 224 - 224 - 224 - 224) = 256 * (p.val / 224 - 5) + 3 + p.val % 224 by omega))

end Cert.KernelIdeal.Hand

end
-- ==== Proof.Arrays.lean ====
/- What the arrays the launch reads hold: the image padded and flattened, the taps, the stacked weights, the columns. -/
module

public import proofs.«01_k».proof.Proof.OutBlock
public import proofs.«01_k».proof.Proof.IdealRun
public import Idealize.ShloMosaic.Lib.Pipeline.ValueKit
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.SL.Sem

/-- The image the first three windows cut: padded by three rows above and five below, three columns before and 29 after,
    each channel's rows end to end. -/
def padded (X : FVec Ideal S1x96x224x224 .f32) : FVec Ideal S96x59392 .bf16 :=
  truncf .bf16 (shapeCast S96x59392 (pad S96x232x256 ![0, 3, 3] ![0, 5, 29] ![0, 0, 0]
    (shapeCast S96x224x224 X shapeCasts_S1x96x224x224_S96x224x224) (sitofp (F := Ideal) .f32 (constantI S_ 32 0#32))
    pads_S96x224x224_S96x232x256_000_350_3290 h_S_ : FVec Ideal S96x232x256 .f32) shapeCasts_S96x232x256_S96x59392) bitsLt_bf16_f32

/-- The convolution's weights, seven columns added. -/
def taps (K : FVec Ideal S96x1x7x7 .f32) : FVec Ideal S96x56 .bf16 :=
  truncf .bf16 (pad S96x56 ![0, 0] ![0, 7] ![0, 0]
    (shapeCast S96x49 (shapeCast S96x7x7 K shapeCasts_S96x1x7x7_S96x7x7) shapeCasts_S96x7x7_S96x49)
    (sitofp (F := Ideal) .f32 (constantI S_ 32 0#32)) pads_S96x49_S96x56_000_070 h_S_ : FVec Ideal S96x56 .f32) bitsLt_bf16_f32

/-- A layer's weights, all experts side by side, then the biases, then eight zero columns. -/
def stack784 (W : FVec Ideal S8x96x96 .f32) (B : FVec Ideal S8x96 .f32) : FVec Ideal S96x784 .bf16 :=
  truncf .bf16 (concatenate S96x784 1
    [⟨S96x768, shapeCast S96x768 (transpose S96x8x96 [1, 0, 2] W transposes_S8x96x96_S96x8x96_1_0_2 : FVec Ideal S96x8x96 .f32) shapeCasts_S96x8x96_S96x768⟩,
     ⟨S96x8, transpose S96x8 [1, 0] B transposes_S8x96_S96x8_1_0⟩,
     ⟨S96x8, broadcastInDim S96x8 ![] bcast_S_S96x8 (constant (F := Ideal) S_ .f32 0x00000000#32)⟩]
    concatenates_S96x768_S96x8_S96x8_S96x784_d1 : FVec Ideal S96x784 .f32) bitsLt_bf16_f32

variable (m : (ℓ : Loc nD τ sig) → Buf (Elt Ideal) ℓ) (c : Dev nD)

/-- The image the windows read is the padded one. -/
theorem V_main_v3 : V m c main_v3 = padded (m ((c.tc : Thread nD τ).loc main_arg0)) := by
  simp only [V, V0, hostOps0, hostOps0_1, hostOps0_2, hostOps0_3, hostOps0_4, List.flatten_cons, List.flatten_nil, List.cons_append, List.nil_append, List.append_nil]
  entry_read
  rfl

/-- The image added back is the argument with each channel's rows end to end. -/
theorem V_main_v4 : V m c main_v4 = shapeCast S96x50176 (m ((c.tc : Thread nD τ).loc main_arg0)) shapeCasts_S1x96x224x224_S96x50176 := by
  simp only [V, V0, hostOps0, hostOps0_1, hostOps0_2, hostOps0_3, hostOps0_4, List.flatten_cons, List.flatten_nil, List.cons_append, List.nil_append, List.append_nil]
  entry_read
  rfl

/-- The taps the kernel reads. -/
theorem V_main_v8 : V m c main_v8 = taps (m ((c.tc : Thread nD τ).loc main_arg1)) := by
  simp only [V, V0, hostOps0, hostOps0_1, hostOps0_2, hostOps0_3, hostOps0_4, List.flatten_cons, List.flatten_nil, List.cons_append, List.nil_append, List.append_nil]
  entry_read
  rfl

/-- The bias of the convolution, as a column. -/
theorem V_main_v9 : V m c main_v9 = shapeCast S96x1 (m ((c.tc : Thread nD τ).loc main_arg2)) shapeCasts_S96_S96x1 := by
  simp only [V, V0, hostOps0, hostOps0_1, hostOps0_2, hostOps0_3, hostOps0_4, List.flatten_cons, List.flatten_nil, List.cons_append, List.nil_append, List.append_nil]
  entry_read
  rfl

/-- The gain of the norm, as a column. -/
theorem V_main_v10 : V m c main_v10 = shapeCast S96x1 (m ((c.tc : Thread nD τ).loc main_arg3)) shapeCasts_S96_S96x1 := by
  simp only [V, V0, hostOps0, hostOps0_1, hostOps0_2, hostOps0_3, hostOps0_4, List.flatten_cons, List.flatten_nil, List.cons_append, List.nil_append, List.append_nil]
  entry_read
  rfl

/-- The shift of the norm, as a column. -/
theorem V_main_v11 : V m c main_v11 = shapeCast S96x1 (m ((c.tc : Thread nD τ).loc main_arg4)) shapeCasts_S96_S96x1 := by
  simp only [V, V0, hostOps0, hostOps0_1, hostOps0_2, hostOps0_3, hostOps0_4, List.flatten_cons, List.flatten_nil, List.cons_append, List.nil_append, List.append_nil]
  entry_read
  rfl

/-- The last scale, as a column. -/
theorem V_main_v12 : V m c main_v12 = shapeCast S96x1 (m ((c.tc : Thread nD τ).loc main_arg10)) shapeCasts_S96x1x1_S96x1 := by
  simp only [V, V0, hostOps0, hostOps0_1, hostOps0_2, hostOps0_3, hostOps0_4, List.flatten_cons, List.flatten_nil, List.cons_append, List.nil_append, List.append_nil]
  entry_read
  rfl

/-- Side by side, equal pieces are equal. -/
theorem stack_congr {a a' : FVec Ideal S96x768 .f32} {b b' z z' : FVec Ideal S96x8 .f32} (ha : a = a') (hb : b = b') (hz : z = z') :
    (truncf .bf16 (concatenate S96x784 1 [⟨S96x768, a⟩, ⟨S96x8, b⟩, ⟨S96x8, z⟩] concatenates_S96x768_S96x8_S96x8_S96x784_d1 : FVec Ideal S96x784 .f32)
      bitsLt_bf16_f32 : FVec Ideal S96x784 .bf16)
    = truncf .bf16 (concatenate S96x784 1 [⟨S96x768, a'⟩, ⟨S96x8, b'⟩, ⟨S96x8, z'⟩] concatenates_S96x768_S96x8_S96x8_S96x784_d1 : FVec Ideal S96x784 .f32)
      bitsLt_bf16_f32 := by
  subst ha hb hz
  rfl

/-- The first weights and biases, stacked. -/
theorem V_main_v18 : V m c main_v18 = stack784 (m ((c.tc : Thread nD τ).loc main_arg6)) (m ((c.tc : Thread nD τ).loc main_arg7)) := by
  simp only [V, V0, hostOps0, hostOps0_1, hostOps0_2, hostOps0_3, hostOps0_4, List.flatten_cons, List.flatten_nil, List.cons_append, List.nil_append, List.append_nil]
  after_reads_simp
  refine stack_congr ?_ ?_ ?_
  · show StableHlo.upto _ _ _ (Proc.devRef .tc main_v15) = _
    after_reads_simp
    rfl
  · show StableHlo.upto _ _ _ (Proc.devRef .tc main_v16) = _
    after_reads_simp
  · show StableHlo.upto _ _ _ (Proc.devRef .tc main_v13) = _
    after_reads_simp

/-- The second weights and biases, stacked. -/
theorem V_main_v23 : V m c main_v23 = stack784 (m ((c.tc : Thread nD τ).loc main_arg8)) (m ((c.tc : Thread nD τ).loc main_arg9)) := by
  simp only [V, V0, hostOps0, hostOps0_1, hostOps0_2, hostOps0_3, hostOps0_4, List.flatten_cons, List.flatten_nil, List.cons_append, List.nil_append, List.append_nil]
  after_reads_simp
  refine stack_congr ?_ ?_ ?_
  · show StableHlo.upto _ _ _ (Proc.devRef .tc main_v20) = _
    after_reads_simp
    rfl
  · show StableHlo.upto _ _ _ (Proc.devRef .tc main_v21) = _
    after_reads_simp
  · show StableHlo.upto _ _ _ (Proc.devRef .tc main_v13) = _
    after_reads_simp

/-- The image's entry `h` rows down and `w` columns across of channel `r`, counted in the image padded by three on every
    side: zero outside the image. -/
def padAt (X : FVec Ideal S1x96x224x224 .f32) (r : Fin 96) (h w : ℕ) : EReal :=
  if hp : (3 ≤ h ∧ h - 3 < 224) ∧ 3 ≤ w ∧ w - 3 < 224 then X (ix4 0 r ⟨h - 3, hp.1.2⟩ ⟨w - 3, hp.2.2⟩) else 0

/-- The integer zero converts to zero. -/
theorem sitofp_zero : FloatOps.sitofp (F := Ideal) .f32 (0#32 : BitVec 32) = (0 : EReal) := by
  simp [FloatOps.sitofp]

/-- An entry of the padded, flattened image. -/
theorem padded_apply (X : FVec Ideal S1x96x224x224 .f32) (r : Fin 96) (q : Fin 59392) :
    padded X (ix2 r q) = padAt X r (q.val / 256) (q.val % 256) := by
  unfold padAt
  rw [← sitofp_zero]
  pointwise [padded]

/-- Tap `(a, d)` of channel `r`. -/
theorem taps_apply (K : FVec Ideal S96x1x7x7 .f32) (r : Fin 96) (a d : Fin 7) (q : Fin 56) (hq : q.val = 7 * a.val + d.val) :
    taps K (ix2 r q) = K (ix4 r 0 a d) := by
  have h1 : q.val / 7 = a.val := by omega
  have h2 : q.val % 7 = d.val := by omega
  pointwise [taps]
  rw [dif_pos (by omega)]
  congr 1
  funext i
  fin_cases i
  · rfl
  · rfl
  · exact Fin.ext h1
  · exact Fin.ext h2

/-- An expert's weights in the stack. -/
theorem stack_weight (W : FVec Ideal S8x96x96 .f32) (B : FVec Ideal S8x96 .f32) (r : Fin 96) (e : Fin 8) (k : Fin 96)
    (q : Fin 784) (hq : q.val = 96 * e.val + k.val) : stack784 W B (ix2 r q) = W (ix3 e r k) := by
  have h1 : q.val / 96 = e.val := by omega
  have h2 : q.val % 96 = k.val := by omega
  pointwise [stack784]
  rw [dif_pos (by omega)]
  congr 1
  funext i
  fin_cases i
  · exact Fin.ext h1
  · rfl
  · exact Fin.ext h2

/-- An expert's bias in the stack. -/
theorem stack_bias (W : FVec Ideal S8x96x96 .f32) (B : FVec Ideal S8x96 .f32) (r : Fin 96) (e : Fin 8)
    (q : Fin 784) (hq : q.val = 768 + e.val) : stack784 W B (ix2 r q) = B (ix2 e r) := by
  have h1 : q.val - 768 = e.val := by omega
  pointwise [stack784]
  rw [dif_neg (by omega), dif_pos (by omega)]
  congr 1
  funext i
  fin_cases i
  · exact Fin.ext h1
  · rfl

end Cert.KernelIdeal.Hand

end
-- ==== Proof.Blocks.lean ====
/- The blocks the windows give a grid point, as entries of the arguments. -/
module

public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe Idealize.SL.Sem

/-- The blocks the windows read and write at point `t`. -/
theorem idx : ∀ t : Fin cfg0.N, win0_0.index t = ![0, t.val - 1] ∧ win0_1.index t = ![0, min t.val 28]
    ∧ win0_2.index t = ![0, min (t.val + 1) 28] ∧ win0_3.index t = ![0, t.val - 2] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, t.val - 2] :=
  (by decide +kernel : ∀ t : Fin grid0.N, _)

/-- The grid has thirty points. -/
theorem points : cfg0.N = 30 := by decide +kernel

variable (m : (ℓ : Loc nD τ sig) → Buf (Elt Ideal) ℓ) (c : Dev nD) (t : Fin cfg0.N)

/-! What each window's block holds, in terms of the argument arrays. -/

/-- What window 0, the block before the current one, holds at a grid point. -/
theorem blk0 (r : Fin 96) (p : Fin 2048) (q : Fin 59392) (hq : q.val = 2048 * (t.val - 1) + p.val) :
    iblk m c 0 t (ix2 r p) = padded (m ((c.tc : Thread nD τ).loc main_arg0)) (ix2 r q) := by
  rw [← V_main_v3]
  blk_ext [iblk, idx t]

/-- What window 1, the current block, holds at a grid point. -/
theorem blk1 (r : Fin 96) (p : Fin 2048) (q : Fin 59392) (hq : q.val = 2048 * min t.val 28 + p.val) :
    iblk m c 1 t (ix2 r p) = padded (m ((c.tc : Thread nD τ).loc main_arg0)) (ix2 r q) := by
  rw [← V_main_v3]
  blk_ext [iblk, idx t]

/-- What window 2, the block after the current one, holds at a grid point. -/
theorem blk2 (r : Fin 96) (p : Fin 2048) (q : Fin 59392) (hq : q.val = 2048 * min (t.val + 1) 28 + p.val) :
    iblk m c 2 t (ix2 r p) = padded (m ((c.tc : Thread nD τ).loc main_arg0)) (ix2 r q) := by
  rw [← V_main_v3]
  blk_ext [iblk, idx t]

/-- An entry of the image with each channel's rows end to end. -/
theorem rows_apply (X : FVec Ideal S1x96x224x224 .f32) (r : Fin 96) (q : Fin 50176) (h w : Fin 224) (hq : q.val = 224 * h.val + w.val) :
    shapeCast S96x50176 X shapeCasts_S1x96x224x224_S96x50176 (ix2 r q) = X (ix4 0 r h w) := by
  have h1 : q.val / 224 = h.val := by omega
  have h2 : q.val % 224 = w.val := by omega
  pointwise
  congr 1
  funext i
  fin_cases i
  · rfl
  · rfl
  · exact Fin.ext h1
  · exact Fin.ext h2

/-- What window 3, the image's block, holds at a grid point. -/
theorem blk3 (r : Fin 96) (p : Fin 1792) (h w : Fin 224) (hh : h.val = 8 * (t.val - 2) + p.val / 224) (hw : w.val = p.val % 224) :
    iblk m c 3 t (ix2 r p) = (m ((c.tc : Thread nD τ).loc main_arg0)) (ix4 0 r h w) := by
  have h1 : iblk m c 3 t (ix2 r p) = V m c main_v4 (ix2 r (⟨1792 * (t.val - 2) + p.val, by omega⟩ : Fin 50176)) := by
    blk_ext [iblk, idx t]
  rw [h1, V_main_v4]
  exact rows_apply _ r _ h w (by show 1792 * (t.val - 2) + p.val = 224 * h.val + w.val; omega)

/-- What window 4, the taps, holds at a grid point. -/
theorem blk4 : iblk m c 4 t = taps (m ((c.tc : Thread nD τ).loc main_arg1)) := by
  rw [← V_main_v8]
  funext y
  blk_ext [iblk, idx t]

/-- What window 5, the convolution's bias, holds at a grid point. -/
theorem blk5 : iblk m c 5 t = shapeCast S96x1 (m ((c.tc : Thread nD τ).loc main_arg2)) shapeCasts_S96_S96x1 := by
  rw [← V_main_v9]
  funext y
  blk_ext [iblk, idx t]

/-- What window 6, the norm's gain, holds at a grid point. -/
theorem blk6 : iblk m c 6 t = shapeCast S96x1 (m ((c.tc : Thread nD τ).loc main_arg3)) shapeCasts_S96_S96x1 := by
  rw [← V_main_v10]
  funext y
  blk_ext [iblk, idx t]

/-- What window 7, the norm's shift, holds at a grid point. -/
theorem blk7 : iblk m c 7 t = shapeCast S96x1 (m ((c.tc : Thread nD τ).loc main_arg4)) shapeCasts_S96_S96x1 := by
  rw [← V_main_v11]
  funext y
  blk_ext [iblk, idx t]

/-- What window 8, the gates, holds at a grid point. -/
theorem blk8 : iblk m c 8 t = (m ((c.tc : Thread nD τ).loc main_arg5)) := by
  rw [← V_main_arg5 m c]
  funext y
  blk_ext [iblk, idx t]

/-- What window 9, the stacked first weights, holds at a grid point. -/
theorem blk9 : iblk m c 9 t = stack784 (m ((c.tc : Thread nD τ).loc main_arg6)) (m ((c.tc : Thread nD τ).loc main_arg7)) := by
  rw [← V_main_v18]
  funext y
  blk_ext [iblk, idx t]

/-- What window 10, the stacked second weights, holds at a grid point. -/
theorem blk10 : iblk m c 10 t = stack784 (m ((c.tc : Thread nD τ).loc main_arg8)) (m ((c.tc : Thread nD τ).loc main_arg9)) := by
  rw [← V_main_v23]
  funext y
  blk_ext [iblk, idx t]

/-- What window 11, the last scale, holds at a grid point. -/
theorem blk11 : iblk m c 11 t = shapeCast S96x1 (m ((c.tc : Thread nD τ).loc main_arg10)) shapeCasts_S96x1x1_S96x1 := by
  rw [← V_main_v12]
  funext y
  blk_ext [iblk, idx t]

/-- An entry of window 5, the convolution's bias. -/
theorem col5 (r : Fin 96) : iblk m c 5 t (ix2 r 0) = (m ((c.tc : Thread nD τ).loc main_arg2)) (ix1 r) := by
  rw [blk5]
  pointwise

/-- An entry of window 6, the norm's gain. -/
theorem col6 (r : Fin 96) : iblk m c 6 t (ix2 r 0) = (m ((c.tc : Thread nD τ).loc main_arg3)) (ix1 r) := by
  rw [blk6]
  pointwise

/-- An entry of window 7, the norm's shift. -/
theorem col7 (r : Fin 96) : iblk m c 7 t (ix2 r 0) = (m ((c.tc : Thread nD τ).loc main_arg4)) (ix1 r) := by
  rw [blk7]
  pointwise

/-- An entry of window 11, the last scale. -/
theorem col11 (r : Fin 96) : iblk m c 11 t (ix2 r 0) = (m ((c.tc : Thread nD τ).loc main_arg10)) (ix3 r 0 0) := by
  rw [blk11]
  pointwise

end Cert.KernelIdeal.Hand

end
-- ==== Proof.Final.lean ====
/- What each grid point leaves, in the words of the arguments: the normed convolution at a pixel, then the expert's output. -/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.SL.Sem

/-- The convolution of the image at pixel `(h, w)` of channel `r`: 49 taps and the bias. -/
def convE (X : FVec Ideal S1x96x224x224 .f32) (K : FVec Ideal S96x1x7x7 .f32) (b : FVec Ideal S96 .f32) (h w : ℕ) (r : Fin 96) : EReal :=
  (∑ d : Fin 7, ∑ a : Fin 7, padAt X r (h + a.val) (w + d.val) * K (ix4 r 0 a d)) + b (ix1 r)

/-- One expert's layer: 96 weights against the values `v`, and the bias. -/
def dense (W : FVec Ideal S8x96x96 .f32) (B : FVec Ideal S8x96 .f32) (v : Fin 96 → EReal) (e : Fin 8) (r : Fin 96) : EReal :=
  (∑ k : Fin 96, W (ix3 e r k) * v k) + B (ix2 e r)

/-- A layer over the stacked weights is the expert's layer. -/
theorem layer_stack (W : FVec Ideal S8x96x96 .f32) (B : FVec Ideal S8x96 .f32) (v : Fin 96 → EReal) (e : Fin 8) (r : Fin 96) :
    layer (fun x => stack784 W B (ix2 r x)) v e = dense W B v e r := by
  exact congrArg₂ (· + ·) (Finset.sum_congr rfl fun k _ => congrArg (· * v k) (stack_weight W B r e k _ rfl))
    (stack_bias W B r e _ rfl)

/-- The expert's two layers over the stacked weights are its own two layers. -/
theorem expertK_stack (W1 : FVec Ideal S8x96x96 .f32) (B1 : FVec Ideal S8x96 .f32) (W2 : FVec Ideal S8x96x96 .f32) (B2 : FVec Ideal S8x96 .f32)
    (v : Fin 96 → EReal) (e : Fin 8) (r : Fin 96) :
    expertK (stack784 W1 B1) (stack784 W2 B2) v e r = dense W2 B2 (fun k => geluK (dense W1 B1 v e k)) e r := by
  unfold expertK
  rw [layer_stack]
  refine congrArg (fun q => dense W2 B2 q e r) (funext fun k => ?_)
  rw [layer_stack]

variable (m : (ℓ : Loc nD τ sig) → Buf (Elt Ideal) ℓ) (c : Dev nD) (t : Fin cfg0.N)

/-- The three blocks side by side at point `t` are a stretch of the padded image. -/
theorem three_padded (r : Fin 96) (p : ℕ) (q : Fin 59392) (hq : q.val + 2048 = 2048 * t.val + p) (ht : t.val ≤ 28)
    (h0 : p < 2048 → 1 ≤ t.val) (h1 : 4096 ≤ p → t.val + 1 ≤ 28) (h2 : p < 6144) :
    three (iblk m c 0 t) (iblk m c 1 t) (iblk m c 2 t) r p = padded (m ((c.tc : Thread nD τ).loc main_arg0)) (ix2 r q) := by
  unfold three
  by_cases hp : p < 2048
  · rw [dif_pos hp]
    have := h0 hp
    exact blk0 m c t r _ q (by show q.val = 2048 * (t.val - 1) + p; omega)
  · by_cases hp' : p - 2048 < 2048
    · rw [dif_neg hp, dif_pos hp']
      exact blk1 m c t r _ q (by show q.val = 2048 * min t.val 28 + (p - 2048); omega)
    · have := h1 (by omega)
      rw [dif_neg hp, dif_neg hp', dif_pos (by omega)]
      exact blk2 m c t r _ q (by show q.val = 2048 * min (t.val + 1) 28 + (p - 4096); omega)

/-- The convolution's block at a pixel. -/
theorem convAt_pixel (h w : Fin 224) (r : Fin 96) (l : Fin 2048) (ht : t.val = (h.val + 3) / 8)
    (hl : l.val = 256 * ((h.val + 3) % 8) + w.val + 3) :
    convAt (iblk m c 0 t) (iblk m c 1 t) (iblk m c 2 t) (iblk m c 4 t) (iblk m c 5 t) r l
      = convE (m ((c.tc : Thread nD τ).loc main_arg0)) (m ((c.tc : Thread nD τ).loc main_arg1)) (m ((c.tc : Thread nD τ).loc main_arg2)) h.val w.val r := by
  unfold convAt convE
  rw [col5]
  refine congrArg (· + _) (Finset.sum_congr rfl fun d _ => Finset.sum_congr rfl fun a _ => ?_)
  have hh := h.isLt
  have hw := w.isLt
  have hd := d.isLt
  have ha := a.isLt
  have hq : 256 * h.val + w.val + 256 * a.val + d.val < 59392 := by omega
  rw [blk4, taps_apply _ r a d _ rfl,
    three_padded m c t r _ ⟨256 * h.val + w.val + 256 * a.val + d.val, hq⟩ (by show 256 * h.val + w.val + 256 * a.val + d.val + 2048 = _; omega)
      (by omega) (by omega) (by omega) (by omega), padded_apply]
  refine congrArg (· * _) ?_
  have e1 : (256 * h.val + w.val + 256 * a.val + d.val) / 256 = h.val + a.val := by omega
  have e2 : (256 * h.val + w.val + 256 * a.val + d.val) % 256 = w.val + d.val := by omega
  exact congrArg₂ (padAt _ r) e1 e2

/-- The layer-normed values at a pixel, the kernel's way. -/
def xlnK (X : FVec Ideal S1x96x224x224 .f32) (K : FVec Ideal S96x1x7x7 .f32) (b g bt : FVec Ideal S96 .f32) (h w : ℕ) (r : Fin 96) : EReal :=
  normK (convE X K b h w) (g (ix1 r)) (bt (ix1 r)) r

/-- The normed convolution a grid point keeps, at a pixel. -/
theorem normAt_pixel (h w : Fin 224) (r : Fin 96) (l : Fin 2048) (ht : t.val = (h.val + 3) / 8)
    (hl : l.val = 256 * ((h.val + 3) % 8) + w.val + 3) :
    normAt m c t (ix2 r l) = xlnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h.val w.val r := by
  unfold normAt xlnK
  rw [bNorm_apply, col6, col7]
  exact congrArg (fun q => normK q _ _ r) (funext fun k => convAt_pixel m c t h w k l ht hl)

/-- The router's logits over the values `v`. -/
def gateE (G : FVec Ideal S8x96 .f32) (v : Fin 96 → EReal) (e : Fin 8) : EReal := ∑ k : Fin 96, G (ix2 e k) * v k

/-- The logits of a column are the gates of its values. -/
theorem lg_eq (s : FVec Ideal S96x2048 .f32) (G : FVec Ideal S8x96 .f32) (l : Fin 2048) (v : Fin 96 → EReal) (h : ∀ k, s (ix2 k l) = v k) :
    lg s G l = gateE G v :=
  funext fun f => Finset.sum_congr rfl fun k _ => congrArg (fun q : EReal => G (ix2 f k) * q) (h k)

/-- What the kernel computes at a pixel: the image there, and the scaled output of the expert whose logit is the first
    greatest. -/
def moeK (v : Fin 96 → EReal) (W1 : FVec Ideal S8x96x96 .f32) (B1 : FVec Ideal S8x96 .f32) (W2 : FVec Ideal S8x96x96 .f32) (B2 : FVec Ideal S8x96 .f32)
    (e : Fin 8) (r : Fin 96) : EReal := dense W2 B2 (fun k => geluK (dense W1 B1 v e k)) e r

/-- The kernel's result at a pixel where `e` is the expert taken: the image, and the expert's scaled output added. -/
def pixelK (X : FVec Ideal S1x96x224x224 .f32) (v : Fin 96 → EReal) (W1 : FVec Ideal S8x96x96 .f32) (B1 : FVec Ideal S8x96 .f32)
    (W2 : FVec Ideal S8x96x96 .f32) (B2 : FVec Ideal S8x96 .f32) (S : FVec Ideal S96x1x1 .f32) (e : Fin 8) (r : Fin 96) (h w : Fin 224) : EReal :=
  X (ix4 0 r h w) + S (ix3 r 0 0) * moeK v W1 B1 W2 B2 e r

/-- The output block at a pixel. -/
theorem outAt_pixel (u v : Fin cfg0.N) (hu : u.val + 1 = v.val) (hv : v.val + 1 = t.val) (r : Fin 96) (p : Fin 1792) (h w : Fin 224)
    (hh : h.val = 8 * (t.val - 2) + p.val / 224) (hw : w.val = p.val % 224) (e : Fin 8)
    (he : FirstTop (gateE (m ((c.tc : Thread nD τ).loc main_arg5)) (xlnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h.val w.val)) e) :
    outAt m c t (normAt m c v) (keepAt m c v (normAt m c u)) (ix2 r p)
      = pixelK (m ((c.tc : Thread nD τ).loc main_arg0)) (xlnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h.val w.val) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e r h w := by
  have hp := p.isLt
  have hN := points
  have htt := t.isLt
  unfold outAt
  rw [bOut_apply, blk3 m c t r p h w hh hw, col11]
  unfold pixelK
  refine congrArg₂ (fun x y : EReal => x + y) rfl (congrArg₂ (fun x y : EReal => x * y) rfl ?_)
  by_cases hc : p.val < 1120
  · rw [pick_y _ _ p hc]
    have hcol : ∀ k : Fin 96, normAt m c u (ix2 k ⟨256 * (p.val / 224) + 771 + p.val % 224, by omega⟩)
        = xlnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h.val w.val k := fun k =>
      normAt_pixel m c u h w k _ (by omega) (by show 256 * (p.val / 224) + 771 + p.val % 224 = _; omega)
    unfold keepAt
    rw [blk8, blk9, blk10]
    refine (bKeep_apply _ _ _ _ r _ (e := e) ?_).trans ?_
    · have : lg (normAt m c u) (m ((c.tc : Thread nD τ).loc main_arg5)) ⟨256 * (p.val / 224) + 771 + p.val % 224, by omega⟩
          = gateE (m ((c.tc : Thread nD τ).loc main_arg5)) (xlnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h.val w.val) :=
        lg_eq _ _ _ _ hcol
      rw [this]
      exact he
    · rw [expertK_stack]
      unfold moeK
      rw [funext hcol]
  · rw [pick_z _ _ p hc]
    have hcol : ∀ k : Fin 96, normAt m c v (ix2 k ⟨256 * (p.val / 224 - 5) + 3 + p.val % 224, by omega⟩)
        = xlnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h.val w.val k := fun k =>
      normAt_pixel m c v h w k _ (by omega) (by show 256 * (p.val / 224 - 5) + 3 + p.val % 224 = _; omega)
    rw [blk8, blk9, blk10]
    refine (bExpert_apply _ _ _ _ r _ (e := e) ?_).trans ?_
    · have : lg (normAt m c v) (m ((c.tc : Thread nD τ).loc main_arg5)) ⟨256 * (p.val / 224 - 5) + 3 + p.val % 224, by omega⟩
          = gateE (m ((c.tc : Thread nD τ).loc main_arg5)) (xlnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h.val w.val) :=
        lg_eq _ _ _ _ hcol
      rw [this]
      exact he
    · rw [expertK_stack]
      unfold moeK
      rw [funext hcol]

end Cert.KernelIdeal.Hand

end
-- ==== Proof.RefConv.lean ====
/- The reference's convolution at a pixel: its 49 shifted products and the bias. -/
module

public import proofs.«01_k».proof.Proof.Gen.ReferenceIdeal.Read
public import proofs.«01_k».proof.Proof.Final
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (padAt sitofp_zero convE)

variable (X : FVec Ideal S1x96x224x224 .f32) (K : FVec Ideal S96x1x7x7 .f32) (b : FVec Ideal S96 .f32)

/-- The reference's padded image, at a row and a column of it. -/
theorem image_apply (r : Fin 96) (h w : Fin 230) : val_main_v0 (F := Ideal) X (ix4 0 r h w) = padAt X r h w := by
  unfold padAt
  rw [← sitofp_zero]
  pointwise [val_main_v0, val_main_call0_v0, val_main_c]

/-- One tap of the reference's convolution: the image shifted, times the tap's weight. -/
theorem tap (a d : Fin 7) (hs : S1x96x230x230.Slices ![0, 0, a.val, d.val] S1x96x224x224)
    (hk : S96x1x7x7.Slices ![0, 0, a.val, d.val] S96x1x1x1) (r : Fin 96) (h w : Fin 224) :
    mulf (F := Ideal) (extractStridedSlice S1x96x224x224 ![0, 0, a.val, d.val] (val_main_v0 (F := Ideal) X) hs)
        (broadcastInDim S1x96x224x224 ![0, 1, 2, 3] bcast_S1x96x1x1_S1x96x224x224_0_1_2_3
          (broadcastInDim S1x96x1x1 ![1] bcast_S96_S1x96x1x1_1
            (shapeCast S96 (extractStridedSlice S96x1x1x1 ![0, 0, a.val, d.val] K hk) shapeCasts_S96x1x1x1_S96))) (ix4 0 r h w)
      = padAt X r (h.val + a.val) (w.val + d.val) * K (ix4 r 0 a d) := by
  have e := image_apply X r ⟨h.val + a.val, by omega⟩ ⟨w.val + d.val, by omega⟩
  rw [← e]
  generalize val_main_v0 (F := Ideal) X = Y
  pointwise
  exact congrArg (· * K (ix4 r 0 a d)) (congrArg₂ (fun p q => Y (ix4 0 r p q)) (Fin.ext (Nat.add_comm _ _)) (Fin.ext (Nat.add_comm _ _)))

/-- The reference's partial sum after the taps of row 0. -/
theorem row0 (r : Fin 96) (h w : Fin 224) : val_main_v50 (F := Ideal) X K (ix4 0 r h w)
    = val_main_v1 (F := Ideal) (ix4 0 r h w) + ∑ d : Fin 7, padAt X r (h.val + 0) (w.val + d.val) * K (ix4 r 0 0 d) := by
  rw [Fin.sum_univ_seven]
  rw [val_main_v50_apply, val_main_v43_apply, val_main_v36_apply, val_main_v29_apply, val_main_v22_apply, val_main_v15_apply, val_main_v8_apply]
  have t0 : val_main_v7 (F := Ideal) X K (ix4 0 r h w) = _ := tap X K 0 0 slices_S1x96x230x230_S1x96x224x224_0_0_0_0 slices_S96x1x7x7_S96x1x1x1_0_0_0_0 r h w
  have t1 : val_main_v14 (F := Ideal) X K (ix4 0 r h w) = _ := tap X K 0 1 slices_S1x96x230x230_S1x96x224x224_0_0_0_1 slices_S96x1x7x7_S96x1x1x1_0_0_0_1 r h w
  have t2 : val_main_v21 (F := Ideal) X K (ix4 0 r h w) = _ := tap X K 0 2 slices_S1x96x230x230_S1x96x224x224_0_0_0_2 slices_S96x1x7x7_S96x1x1x1_0_0_0_2 r h w
  have t3 : val_main_v28 (F := Ideal) X K (ix4 0 r h w) = _ := tap X K 0 3 slices_S1x96x230x230_S1x96x224x224_0_0_0_3 slices_S96x1x7x7_S96x1x1x1_0_0_0_3 r h w
  have t4 : val_main_v35 (F := Ideal) X K (ix4 0 r h w) = _ := tap X K 0 4 slices_S1x96x230x230_S1x96x224x224_0_0_0_4 slices_S96x1x7x7_S96x1x1x1_0_0_0_4 r h w
  have t5 : val_main_v42 (F := Ideal) X K (ix4 0 r h w) = _ := tap X K 0 5 slices_S1x96x230x230_S1x96x224x224_0_0_0_5 slices_S96x1x7x7_S96x1x1x1_0_0_0_5 r h w
  have t6 : val_main_v49 (F := Ideal) X K (ix4 0 r h w) = _ := tap X K 0 6 slices_S1x96x230x230_S1x96x224x224_0_0_0_6 slices_S96x1x7x7_S96x1x1x1_0_0_0_6 r h w
  rw [t0, t1, t2, t3, t4, t5, t6]
  simp only [Ideal.addf_def, add_assoc]
  rfl

/-- The reference's partial sum after the taps of row 1. -/
theorem row1 (r : Fin 96) (h w : Fin 224) : val_main_v99 (F := Ideal) X K (ix4 0 r h w)
    = val_main_v50 (F := Ideal) X K (ix4 0 r h w) + ∑ d : Fin 7, padAt X r (h.val + 1) (w.val + d.val) * K (ix4 r 0 1 d) := by
  rw [Fin.sum_univ_seven]
  rw [val_main_v99_apply, val_main_v92_apply, val_main_v85_apply, val_main_v78_apply, val_main_v71_apply, val_main_v64_apply, val_main_v57_apply]
  have t0 : val_main_v56 (F := Ideal) X K (ix4 0 r h w) = _ := tap X K 1 0 slices_S1x96x230x230_S1x96x224x224_0_0_1_0 slices_S96x1x7x7_S96x1x1x1_0_0_1_0 r h w
  have t1 : val_main_v63 (F := Ideal) X K (ix4 0 r h w) = _ := tap X K 1 1 slices_S1x96x230x230_S1x96x224x224_0_0_1_1 slices_S96x1x7x7_S96x1x1x1_0_0_1_1 r h w
  have t2 : val_main_v70 (F := Ideal) X K (ix4 0 r h w) = _ := tap X K 1 2 slices_S1x96x230x230_S1x96x224x224_0_0_1_2 slices_S96x1x7x7_S96x1x1x1_0_0_1_2 r h w
  have t3 : val_main_v77 (F := Ideal) X K (ix4 0 r h w) = _ := tap X K 1 3 slices_S1x96x230x230_S1x96x224x224_0_0_1_3 slices_S96x1x7x7_S96x1x1x1_0_0_1_3 r h w
  have t4 : val_main_v84 (F := Ideal) X K (ix4 0 r h w) = _ := tap X K 1 4 slices_S1x96x230x230_S1x96x224x224_0_0_1_4 slices_S96x1x7x7_S96x1x1x1_0_0_1_4 r h w
  have t5 : val_main_v91 (F := Ideal) X K (ix4 0 r h w) = _ := tap X K 1 5 slices_S1x96x230x230_S1x96x224x224_0_0_1_5 slices_S96x1x7x7_S96x1x1x1_0_0_1_5 r h w
  have t6 : val_main_v98 (F := Ideal) X K (ix4 0 r h w) = _ := tap X K 1 6 slices_S1x96x230x230_S1x96x224x224_0_0_1_6 slices_S96x1x7x7_S96x1x1x1_0_0_1_6 r h w
  rw [t0, t1, t2, t3, t4, t5, t6]
  simp only [Ideal.addf_def, add_assoc]
  rfl

/-- The reference's partial sum after the taps of row 2. -/
theorem row2 (r : Fin 96) (h w : Fin 224) : val_main_v148 (F := Ideal) X K (ix4 0 r h w)
    = val_main_v99 (F := Ideal) X K (ix4 0 r h w) + ∑ d : Fin 7, padAt X r (h.val + 2) (w.val + d.val) * K (ix4 r 0 2 d) := by
  rw [Fin.sum_univ_seven]
  rw [val_main_v148_apply, val_main_v141_apply, val_main_v134_apply, val_main_v127_apply, val_main_v120_apply, val_main_v113_apply, val_main_v106_apply]
  have t0 : val_main_v105 (F := Ideal) X K (ix4 0 r h w) = _ := tap X K 2 0 slices_S1x96x230x230_S1x96x224x224_0_0_2_0 slices_S96x1x7x7_S96x1x1x1_0_0_2_0 r h w
  have t1 : val_main_v112 (F := Ideal) X K (ix4 0 r h w) = _ := tap X K 2 1 slices_S1x96x230x230_S1x96x224x224_0_0_2_1 slices_S96x1x7x7_S96x1x1x1_0_0_2_1 r h w
  have t2 : val_main_v119 (F := Ideal) X K (ix4 0 r h w) = _ := tap X K 2 2 slices_S1x96x230x230_S1x96x224x224_0_0_2_2 slices_S96x1x7x7_S96x1x1x1_0_0_2_2 r h w
  have t3 : val_main_v126 (F := Ideal) X K (ix4 0 r h w) = _ := tap X K 2 3 slices_S1x96x230x230_S1x96x224x224_0_0_2_3 slices_S96x1x7x7_S96x1x1x1_0_0_2_3 r h w
  have t4 : val_main_v133 (F := Ideal) X K (ix4 0 r h w) = _ := tap X K 2 4 slices_S1x96x230x230_S1x96x224x224_0_0_2_4 slices_S96x1x7x7_S96x1x1x1_0_0_2_4 r h w
  have t5 : val_main_v140 (F := Ideal) X K (ix4 0 r h w) = _ := tap X K 2 5 slices_S1x96x230x230_S1x96x224x224_0_0_2_5 slices_S96x1x7x7_S96x1x1x1_0_0_2_5 r h w
  have t6 : val_main_v147 (F := Ideal) X K (ix4 0 r h w) = _ := tap X K 2 6 slices_S1x96x230x230_S1x96x224x224_0_0_2_6 slices_S96x1x7x7_S96x1x1x1_0_0_2_6 r h w
  rw [t0, t1, t2, t3, t4, t5, t6]
  simp only [Ideal.addf_def, add_assoc]
  rfl

/-- The reference's partial sum after the taps of row 3. -/
theorem row3 (r : Fin 96) (h w : Fin 224) : val_main_v197 (F := Ideal) X K (ix4 0 r h w)
    = val_main_v148 (F := Ideal) X K (ix4 0 r h w) + ∑ d : Fin 7, padAt X r (h.val + 3) (w.val + d.val) * K (ix4 r 0 3 d) := by
  rw [Fin.sum_univ_seven]
  rw [val_main_v197_apply, val_main_v190_apply, val_main_v183_apply, val_main_v176_apply, val_main_v169_apply, val_main_v162_apply, val_main_v155_apply]
  have t0 : val_main_v154 (F := Ideal) X K (ix4 0 r h w) = _ := tap X K 3 0 slices_S1x96x230x230_S1x96x224x224_0_0_3_0 slices_S96x1x7x7_S96x1x1x1_0_0_3_0 r h w
  have t1 : val_main_v161 (F := Ideal) X K (ix4 0 r h w) = _ := tap X K 3 1 slices_S1x96x230x230_S1x96x224x224_0_0_3_1 slices_S96x1x7x7_S96x1x1x1_0_0_3_1 r h w
  have t2 : val_main_v168 (F := Ideal) X K (ix4 0 r h w) = _ := tap X K 3 2 slices_S1x96x230x230_S1x96x224x224_0_0_3_2 slices_S96x1x7x7_S96x1x1x1_0_0_3_2 r h w
  have t3 : val_main_v175 (F := Ideal) X K (ix4 0 r h w) = _ := tap X K 3 3 slices_S1x96x230x230_S1x96x224x224_0_0_3_3 slices_S96x1x7x7_S96x1x1x1_0_0_3_3 r h w
  have t4 : val_main_v182 (F := Ideal) X K (ix4 0 r h w) = _ := tap X K 3 4 slices_S1x96x230x230_S1x96x224x224_0_0_3_4 slices_S96x1x7x7_S96x1x1x1_0_0_3_4 r h w
  have t5 : val_main_v189 (F := Ideal) X K (ix4 0 r h w) = _ := tap X K 3 5 slices_S1x96x230x230_S1x96x224x224_0_0_3_5 slices_S96x1x7x7_S96x1x1x1_0_0_3_5 r h w
  have t6 : val_main_v196 (F := Ideal) X K (ix4 0 r h w) = _ := tap X K 3 6 slices_S1x96x230x230_S1x96x224x224_0_0_3_6 slices_S96x1x7x7_S96x1x1x1_0_0_3_6 r h w
  rw [t0, t1, t2, t3, t4, t5, t6]
  simp only [Ideal.addf_def, add_assoc]
  rfl

/-- The reference's partial sum after the taps of row 4. -/
theorem row4 (r : Fin 96) (h w : Fin 224) : val_main_v246 (F := Ideal) X K (ix4 0 r h w)
    = val_main_v197 (F := Ideal) X K (ix4 0 r h w) + ∑ d : Fin 7, padAt X r (h.val + 4) (w.val + d.val) * K (ix4 r 0 4 d) := by
  rw [Fin.sum_univ_seven]
  rw [val_main_v246_apply, val_main_v239_apply, val_main_v232_apply, val_main_v225_apply, val_main_v218_apply, val_main_v211_apply, val_main_v204_apply]
  have t0 : val_main_v203 (F := Ideal) X K (ix4 0 r h w) = _ := tap X K 4 0 slices_S1x96x230x230_S1x96x224x224_0_0_4_0 slices_S96x1x7x7_S96x1x1x1_0_0_4_0 r h w
  have t1 : val_main_v210 (F := Ideal) X K (ix4 0 r h w) = _ := tap X K 4 1 slices_S1x96x230x230_S1x96x224x224_0_0_4_1 slices_S96x1x7x7_S96x1x1x1_0_0_4_1 r h w
  have t2 : val_main_v217 (F := Ideal) X K (ix4 0 r h w) = _ := tap X K 4 2 slices_S1x96x230x230_S1x96x224x224_0_0_4_2 slices_S96x1x7x7_S96x1x1x1_0_0_4_2 r h w
  have t3 : val_main_v224 (F := Ideal) X K (ix4 0 r h w) = _ := tap X K 4 3 slices_S1x96x230x230_S1x96x224x224_0_0_4_3 slices_S96x1x7x7_S96x1x1x1_0_0_4_3 r h w
  have t4 : val_main_v231 (F := Ideal) X K (ix4 0 r h w) = _ := tap X K 4 4 slices_S1x96x230x230_S1x96x224x224_0_0_4_4 slices_S96x1x7x7_S96x1x1x1_0_0_4_4 r h w
  have t5 : val_main_v238 (F := Ideal) X K (ix4 0 r h w) = _ := tap X K 4 5 slices_S1x96x230x230_S1x96x224x224_0_0_4_5 slices_S96x1x7x7_S96x1x1x1_0_0_4_5 r h w
  have t6 : val_main_v245 (F := Ideal) X K (ix4 0 r h w) = _ := tap X K 4 6 slices_S1x96x230x230_S1x96x224x224_0_0_4_6 slices_S96x1x7x7_S96x1x1x1_0_0_4_6 r h w
  rw [t0, t1, t2, t3, t4, t5, t6]
  simp only [Ideal.addf_def, add_assoc]
  rfl

/-- The reference's partial sum after the taps of row 5. -/
theorem row5 (r : Fin 96) (h w : Fin 224) : val_main_v295 (F := Ideal) X K (ix4 0 r h w)
    = val_main_v246 (F := Ideal) X K (ix4 0 r h w) + ∑ d : Fin 7, padAt X r (h.val + 5) (w.val + d.val) * K (ix4 r 0 5 d) := by
  rw [Fin.sum_univ_seven]
  rw [val_main_v295_apply, val_main_v288_apply, val_main_v281_apply, val_main_v274_apply, val_main_v267_apply, val_main_v260_apply, val_main_v253_apply]
  have t0 : val_main_v252 (F := Ideal) X K (ix4 0 r h w) = _ := tap X K 5 0 slices_S1x96x230x230_S1x96x224x224_0_0_5_0 slices_S96x1x7x7_S96x1x1x1_0_0_5_0 r h w
  have t1 : val_main_v259 (F := Ideal) X K (ix4 0 r h w) = _ := tap X K 5 1 slices_S1x96x230x230_S1x96x224x224_0_0_5_1 slices_S96x1x7x7_S96x1x1x1_0_0_5_1 r h w
  have t2 : val_main_v266 (F := Ideal) X K (ix4 0 r h w) = _ := tap X K 5 2 slices_S1x96x230x230_S1x96x224x224_0_0_5_2 slices_S96x1x7x7_S96x1x1x1_0_0_5_2 r h w
  have t3 : val_main_v273 (F := Ideal) X K (ix4 0 r h w) = _ := tap X K 5 3 slices_S1x96x230x230_S1x96x224x224_0_0_5_3 slices_S96x1x7x7_S96x1x1x1_0_0_5_3 r h w
  have t4 : val_main_v280 (F := Ideal) X K (ix4 0 r h w) = _ := tap X K 5 4 slices_S1x96x230x230_S1x96x224x224_0_0_5_4 slices_S96x1x7x7_S96x1x1x1_0_0_5_4 r h w
  have t5 : val_main_v287 (F := Ideal) X K (ix4 0 r h w) = _ := tap X K 5 5 slices_S1x96x230x230_S1x96x224x224_0_0_5_5 slices_S96x1x7x7_S96x1x1x1_0_0_5_5 r h w
  have t6 : val_main_v294 (F := Ideal) X K (ix4 0 r h w) = _ := tap X K 5 6 slices_S1x96x230x230_S1x96x224x224_0_0_5_6 slices_S96x1x7x7_S96x1x1x1_0_0_5_6 r h w
  rw [t0, t1, t2, t3, t4, t5, t6]
  simp only [Ideal.addf_def, add_assoc]
  rfl

/-- The reference's partial sum after the taps of row 6. -/
theorem row6 (r : Fin 96) (h w : Fin 224) : val_main_v344 (F := Ideal) X K (ix4 0 r h w)
    = val_main_v295 (F := Ideal) X K (ix4 0 r h w) + ∑ d : Fin 7, padAt X r (h.val + 6) (w.val + d.val) * K (ix4 r 0 6 d) := by
  rw [Fin.sum_univ_seven]
  rw [val_main_v344_apply, val_main_v337_apply, val_main_v330_apply, val_main_v323_apply, val_main_v316_apply, val_main_v309_apply, val_main_v302_apply]
  have t0 : val_main_v301 (F := Ideal) X K (ix4 0 r h w) = _ := tap X K 6 0 slices_S1x96x230x230_S1x96x224x224_0_0_6_0 slices_S96x1x7x7_S96x1x1x1_0_0_6_0 r h w
  have t1 : val_main_v308 (F := Ideal) X K (ix4 0 r h w) = _ := tap X K 6 1 slices_S1x96x230x230_S1x96x224x224_0_0_6_1 slices_S96x1x7x7_S96x1x1x1_0_0_6_1 r h w
  have t2 : val_main_v315 (F := Ideal) X K (ix4 0 r h w) = _ := tap X K 6 2 slices_S1x96x230x230_S1x96x224x224_0_0_6_2 slices_S96x1x7x7_S96x1x1x1_0_0_6_2 r h w
  have t3 : val_main_v322 (F := Ideal) X K (ix4 0 r h w) = _ := tap X K 6 3 slices_S1x96x230x230_S1x96x224x224_0_0_6_3 slices_S96x1x7x7_S96x1x1x1_0_0_6_3 r h w
  have t4 : val_main_v329 (F := Ideal) X K (ix4 0 r h w) = _ := tap X K 6 4 slices_S1x96x230x230_S1x96x224x224_0_0_6_4 slices_S96x1x7x7_S96x1x1x1_0_0_6_4 r h w
  have t5 : val_main_v336 (F := Ideal) X K (ix4 0 r h w) = _ := tap X K 6 5 slices_S1x96x230x230_S1x96x224x224_0_0_6_5 slices_S96x1x7x7_S96x1x1x1_0_0_6_5 r h w
  have t6 : val_main_v343 (F := Ideal) X K (ix4 0 r h w) = _ := tap X K 6 6 slices_S1x96x230x230_S1x96x224x224_0_0_6_6 slices_S96x1x7x7_S96x1x1x1_0_0_6_6 r h w
  rw [t0, t1, t2, t3, t4, t5, t6]
  simp only [Ideal.addf_def, add_assoc]
  rfl

/-- The reference's convolution with its bias, channels last. -/
theorem conv_apply (r : Fin 96) (h w : Fin 224) : val_main_v348 (F := Ideal) X K b (ix4 0 h w r) = convE X K b h w r := by
  have hb : val_main_v346 (F := Ideal) b (ix4 0 r h w) = b (ix1 r) := by
    pointwise [val_main_v346, val_main_v345]
  have h0 : val_main_v1 (F := Ideal) (ix4 0 r h w) = 0 := by
    rw [val_main_v1_apply, val_main_cst_apply]
    exact Ideal.ofBits_zero_f32
  have hs : val_main_v344 (F := Ideal) X K (ix4 0 r h w)
      = ∑ a : Fin 7, ∑ d : Fin 7, padAt X r (h.val + a.val) (w.val + d.val) * K (ix4 r 0 a d) := by
    refine Eq.trans ?_ (Fin.sum_univ_seven _).symm
    rw [row6, row5, row4, row3, row2, row1, row0, h0, zero_add]
    rfl
  have ht : val_main_v348 (F := Ideal) X K b (ix4 0 h w r) = val_main_v347 (F := Ideal) X K b (ix4 0 r h w) := by
    unfold val_main_v348
    generalize val_main_v347 (F := Ideal) X K b = Y
    pointwise
  rw [ht, val_main_v347_apply, hb, hs, Finset.sum_comm]
  rfl

end Cert.ReferenceIdeal.Hand

end
-- ==== Proof.RefNorm.lean ====
/- The reference's layer norm at a pixel. -/
module

public import proofs.«01_k».proof.Proof.RefConv
public import proofs.«01_k».proof.Proof.Consts
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (convE sitofp_zero ofBits_96)

/-- The mean of a pixel's channels. -/
def meanR (cv : Fin 96 → EReal) : EReal := Ideal.div (∑ k, cv k) (Ideal.ofBits .f32 0x42C00000#32)

/-- The variance of a pixel's channels: the mean of the squared deviations. -/
def varR (cv : Fin 96 → EReal) : EReal :=
  Ideal.div (∑ k, (cv k - meanR cv) * (cv k - meanR cv)) (Ideal.ofBits .f32 0x42C00000#32)

/-- The reference's layer norm of a pixel at channel `r`. -/
def normR (cv : Fin 96 → EReal) (g b : EReal) (r : Fin 96) : EReal :=
  Ideal.div (cv r - meanR cv) (Ideal.sqrt (varR cv + Ideal.ofBits .f32 0x358637BD#32)) * g + b

section
variable (X : FVec Ideal S1x96x224x224 .f32) (K : FVec Ideal S96x1x7x7 .f32) (b g bt : FVec Ideal S96 .f32)

/-- The reference's mean at a pixel. -/
theorem mean_apply (h w : Fin 224) : val_main_v352 (F := Ideal) X K b (ix4 0 h w 0) = meanR (convE X K b h w) := by
  have e : ∀ k : Fin 96, val_main_v348 (F := Ideal) X K b (ix4 0 h w k) = convE X K b h w k := fun k => conv_apply X K b k h w
  unfold meanR
  simp only [← e]
  unfold val_main_v352 val_main_v350 val_main_v349
  generalize val_main_v348 (F := Ideal) X K b = Y
  pointwise [val_main_v351, val_main_cst_1, val_main_cst_0]

/-- A channel's deviation from the mean at a pixel. -/
theorem dev_apply (h w : Fin 224) (r : Fin 96) :
    val_main_call1_v5 (F := Ideal) X K b (ix4 0 h w r) = convE X K b h w r - meanR (convE X K b h w) := by
  have e : ∀ k : Fin 96, val_main_v348 (F := Ideal) X K b (ix4 0 h w k) = convE X K b h w k := fun k => conv_apply X K b k h w
  unfold meanR
  simp only [← e]
  unfold val_main_call1_v5 val_main_call1_v4 val_main_call1_v3 val_main_call1_v1 val_main_call1_v0
  generalize val_main_v348 (F := Ideal) X K b = Y
  pointwise [val_main_call1_v2, val_main_call1_cst_0, val_main_call1_cst]

/-- The divisor of the reference's variance is the number of channels. -/
theorem count_eq : val_main_call1_v8 (F := Ideal) ix0 = Ideal.ofBits .f32 0x42C00000#32 := by
  rw [val_main_call1_v8_apply, val_main_call1_cst_1_apply, val_main_call1_v7_apply, val_main_c_2_apply, sitofp_zero]
  exact sub_zero _

/-- The divisor of the variance is positive. -/
theorem count_pos : val_main_call1_v13 (F := Ideal) ix0 = 1#1 := by
  rw [val_main_call1_v13_apply, count_eq, val_main_call1_cst_3_apply]
  show Ideal.cmp .ogt (Ideal.ofBits .f32 0x42C00000#32) (Ideal.ofBits .f32 0x00000000#32) = 1#1
  rw [ofBits_96, Ideal.ofBits_zero_f32]
  exact congrArg BitVec.ofBool (decide_eq_true (EReal.coe_lt_coe_iff.mpr (by norm_num : (0:ℝ) < 96)))

/-- The reference's variance at a pixel. -/
theorem var_apply (h w : Fin 224) : val_main_v353 (F := Ideal) X K b (ix4 0 h w 0) = varR (convE X K b h w) := by
  have e : ∀ k : Fin 96, val_main_call1_v5 (F := Ideal) X K b (ix4 0 h w k) = convE X K b h w k - meanR (convE X K b h w) :=
    fun k => dev_apply X K b h w k
  have hc := count_eq
  have hp := count_pos
  unfold varR
  simp only [← e]
  rw [← hc]
  unfold val_main_v353 val_main_call1_v12 val_main_call1_v10 val_main_call1_v9 val_main_call1_v6 val_main_call1_v11
  generalize val_main_call1_v5 (F := Ideal) X K b = Y
  generalize val_main_call1_v8 (F := Ideal) = C at *
  generalize val_main_call1_v13 (F := Ideal) = D at *
  pointwise [val_main_call1_cst_2, hp]

/-- The reference's layer norm at a pixel and channel. -/
theorem norm_apply (h w : Fin 224) (r : Fin 96) :
    val_main_v366 (F := Ideal) X K b g bt (ix4 0 h w r) = normR (convE X K b h w) (g (ix1 r)) (bt (ix1 r)) r := by
  have hm := mean_apply X K b h w
  have hv := var_apply X K b h w
  have hc := conv_apply X K b r h w
  unfold normR
  rw [← hm, ← hv, ← hc]
  unfold val_main_v366 val_main_v363 val_main_v360 val_main_v355 val_main_v354 val_main_v359 val_main_v358 val_main_v357
  generalize val_main_v348 (F := Ideal) X K b = Y
  generalize val_main_v352 (F := Ideal) X K b = M
  generalize val_main_v353 (F := Ideal) X K b = V
  pointwise [val_main_v365, val_main_v364, val_main_v362, val_main_v361, val_main_v356, val_main_cst_3]

end

end Cert.ReferenceIdeal.Hand

end
-- ==== Proof.KernelValue.lean ====
/- The array the kernel leaves: every pixel of every channel, from the blocks the grid points write. -/
module

public import proofs.«01_k».proof.Proof.Final
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat RDat)

/-- The expert the logits `L` choose: the first of those that hold the greatest. -/
def chosen (L : Fin 8 → EReal) : Fin 8 := Classical.choose (exists_firstTop L)

/-- The expert chosen has the first of the greatest logits. -/
theorem chosen_first (L : Fin 8 → EReal) : FirstTop L (chosen L) := Classical.choose_spec (exists_firstTop L)

/-- The array the region leaves, as a function of the arguments: every pixel of every channel. -/
def resultK (X : FVec Ideal S1x96x224x224 .f32) (K : FVec Ideal S96x1x7x7 .f32) (b g bt : FVec Ideal S96 .f32) (G : FVec Ideal S8x96 .f32)
    (W1 : FVec Ideal S8x96x96 .f32) (B1 : FVec Ideal S8x96 .f32) (W2 : FVec Ideal S8x96x96 .f32) (B2 : FVec Ideal S8x96 .f32)
    (S : FVec Ideal S96x1x1 .f32) (r : Fin 96) (h w : Fin 224) : EReal :=
  pixelK X (xlnK X K b g bt h.val w.val) W1 B1 W2 B2 S (chosen (gateE G (xlnK X K b g bt h.val w.val))) r h w

/-- The same laid out with each channel's rows end to end. -/
def flatK (X : FVec Ideal S1x96x224x224 .f32) (K : FVec Ideal S96x1x7x7 .f32) (b g bt : FVec Ideal S96 .f32) (G : FVec Ideal S8x96 .f32)
    (W1 : FVec Ideal S8x96x96 .f32) (B1 : FVec Ideal S8x96 .f32) (W2 : FVec Ideal S8x96x96 .f32) (B2 : FVec Ideal S8x96 .f32)
    (S : FVec Ideal S96x1x1 .f32) : FVec Ideal S96x50176 .f32 := fun j =>
  resultK X K b g bt G W1 B1 W2 B2 S (j 0) ⟨(j 1).val / 224, Nat.div_lt_of_lt_mul (j 1).isLt⟩ ⟨(j 1).val % 224, Nat.mod_lt _ (by decide)⟩

variable (m : (ℓ : Loc nD τ sig) → Buf (Elt Ideal) ℓ) (c : Dev nD)

/-- The output block is written back from the third point on. -/
theorem flush12 : ∀ t : Fin cfg0.N, (cfg0.win 12).flush t = true → 2 ≤ t.val :=
  (by decide +kernel : ∀ t : Fin grid0.N, _)

/-- The output block at an index, at a point that writes it back. -/
theorem outAt_flat (t u v : Fin cfg0.N) (hu : u.val + 1 = v.val) (hv : v.val + 1 = t.val) (r : Fin 96) (p : Fin 1792) (q : Fin 50176)
    (hq : q.val = 1792 * (t.val - 2) + p.val) :
    outAt m c t (normAt m c v) (keepAt m c v (normAt m c u)) (ix2 r p)
      = flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 r q) := by
  have hp := p.isLt
  exact outAt_pixel m c t u v hu hv r p ⟨q.val / 224, by omega⟩ ⟨q.val % 224, by omega⟩
    (by show q.val / 224 = _; omega) (by show q.val % 224 = _; omega) _ (chosen_first _)

/-- What the region leaves in the output array. -/
theorem out_array (A : Buf (Elt Ideal) ((cfg0.win 12).arr.view.loc (c.tc : Thread nD τ))) (hA : (rdat m c).ArrAt 12 cfg0.N A) :
    A = flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨X, hX, hE⟩ := hA.exists_exact
  have hN := points
  let after : (w' : Fin cfg0.W) → Fin cfg0.N → (cfg0.win w').block.Idx → Elt Ideal (cfg0.win w').elt := fun w' =>
    if hw : w' = 12 then hw ▸ X else fun _ _ => Classical.arbitrary _
  have hafter : after 12 = X := dif_pos rfl
  rw [hE after fun u _ _ => congrFun hafter u]
  refine ((rdat m c).withAfter after).arrAt_eq_of_covers 12 _ (by decide +kernel) fun t hf y => ?_
  have ht := flush12 t hf
  have htt := t.isLt
  have hL := (dats m 0 c).toRRel_leaves (fgt := isOutW) (Rl := Stored m c) (by decide : isOutW 12 = true) (hX t t.isLt hf)
  have hXt := hL ⟨t.val - 2, by omega⟩ ⟨t.val - 1, by omega⟩ (by show t.val - 2 + 1 = t.val - 1; omega) (by show t.val - 1 + 1 = t.val; omega)
  blk_simp [RDat.withAfter_after]
  rw [hafter, hXt]
  idx_vars y
  have hp : y1.val < 1792 := y1.isLt
  refine (outAt_flat m c t _ _ (by show t.val - 2 + 1 = t.val - 1; omega) (by show t.val - 1 + 1 = t.val; omega) y0 y1
    ⟨1792 * (t.val - 2) + y1.val, by omega⟩ rfl).trans ?_
  blk_ext [idx t]

/-- The image's shape read at a pixel. -/
theorem unflat (Y : FVec Ideal S96x50176 .f32) (r : Fin 96) (h w : Fin 224) :
    shapeCast S1x96x224x224 Y shapeCasts_S96x50176_S1x96x224x224 (ix4 0 r h w) = Y (ix2 r ⟨224 * h.val + w.val, by omega⟩) := by
  pointwise
  exact congrArg Y (congrArg (ix2 r) (Fin.ext (congrArg (· + w.val) (Nat.mul_comm _ _))))

/-- The kernel's result, from the array the region leaves. -/
theorem result_value (A : (w : Fin cfg0.W) → Buf (Elt Ideal) ((cfg0.spec w).arr.view.loc (c.tc : Thread nD τ)))
    (hA : ∀ w, (rdat m c).ArrAt w cfg0.N (A w)) (r : Fin 96) (h w : Fin 224) :
    StableHlo.after [hostOps1].flatten (Pipeline.withArrays spec0 c (V0 m c) A) (Proc.devRef .tc main_v25) (ix4 0 r h w)
      = resultK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) r h w := by
  have h1 : Pipeline.withArrays spec0 c (V0 m c) A (Proc.devRef .tc main_v24)
      = flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    (Pipeline.withArrays_arr_shared spec0 c (V0 m c) A
      ((rdat m c).ArrAt_sharedIn sharedIn0 (V0 m c) (fun w => rfl) cfg0.N A hA) 12).trans (out_array m c (A 12) (hA 12))
  have h2 : StableHlo.after [hostOps1].flatten (Pipeline.withArrays spec0 c (V0 m c) A) (Proc.devRef .tc main_v25)
      = shapeCast S1x96x224x224 (flatK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) shapeCasts_S96x50176_S1x96x224x224 := by
    rw [← h1]
    simp only [hostOps1, List.flatten_cons, List.flatten_nil, List.append_nil]
    after_reads_simp
    rfl
  rw [h2, unflat]
  unfold flatK
  have e1 : (224 * h.val + w.val) / 224 = h.val := by omega
  have e2 : (224 * h.val + w.val) % 224 = w.val := by omega
  exact congrArg₂ (resultK _ _ _ _ _ _ _ _ _ _ _ r) (Fin.ext e1) (Fin.ext e2)

end Cert.KernelIdeal.Hand

end
-- ==== Proof.RefSort.lean ====
/- The first of a descending stable sort of eight values: the greatest, taken from the first place that holds it. -/
module

public import proofs.«01_k».proof.Proof.RefNorm
public import proofs.«01_k».proof.Proof.KernelValue
public import Idealize.ShloMosaic.Lib.SortFacts
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (topOf FirstTop firstTop_unique chosen chosen_first ofBits_bot)

/-- What a stable sort, greatest first, of increasing positions puts first: the first of the greatest values. -/
theorem head_sorted {n : ℕ} (L : Fin n → EReal) (B : Fin n → Fin n → Bool) (hB : ∀ a b, B a b = true ↔ L b < L a) :
    ∀ l : List (Fin n), l.Pairwise (· < ·) → ∀ h ∈ (stableSort B l).head?,
      h ∈ l ∧ ∀ c ∈ l, L c ≤ L h ∧ (c < h → L c < L h) := by
  intro l
  induction l with
  | nil => intro _ h hh; simp [stableSort] at hh
  | cons a l ih =>
    intro hp h hh
    rw [List.pairwise_cons] at hp
    have hperm := perm_stableSort B l
    unfold stableSort at hh
    cases hs : stableSort B l with
    | nil =>
      rw [hs] at hh hperm
      have hl : l = [] := hperm.symm.eq_nil
      subst hl
      simp only [insertBefore, List.head?_cons, Option.mem_def, Option.some.injEq] at hh
      subst hh
      exact ⟨List.mem_cons_self, fun c hc => by
        rw [List.mem_singleton.mp hc]
        exact ⟨le_rfl, fun hlt => absurd hlt (lt_irrefl _)⟩⟩
    | cons b t =>
      obtain ⟨hb, hmax⟩ := ih hp.2 b (by rw [hs]; rfl)
      rw [hs] at hh
      by_cases hba : B b a = true
      · simp only [insertBefore, hba, if_true, List.head?_cons, Option.mem_def, Option.some.injEq] at hh
        subst hh
        refine ⟨List.mem_cons_of_mem _ hb, fun c hc => ?_⟩
        rcases List.mem_cons.mp hc with rfl | hc
        · have := (hB _ _).mp hba
          exact ⟨le_of_lt this, fun _ => this⟩
        · exact hmax c hc
      · have hba' : B b a = false := by simpa using hba
        simp only [insertBefore, hba', Bool.false_eq_true, if_false, List.head?_cons, Option.mem_def, Option.some.injEq] at hh
        subst hh
        have hle : L b ≤ L a := not_lt.mp fun hlt => hba ((hB _ _).mpr hlt)
        refine ⟨List.mem_cons_self, fun c hc => ?_⟩
        rcases List.mem_cons.mp hc with rfl | hc
        · exact ⟨le_rfl, fun hlt => absurd hlt (lt_irrefl _)⟩
        · exact ⟨(hmax c hc).1.trans hle, fun hlt => absurd hlt (not_lt.mpr (le_of_lt (hp.1 c hc)))⟩

/-- The position a stable sort of eight values, greatest first, puts first is the first of the greatest. -/
theorem sortedFrom_first (L : Fin 8 → EReal) (B : Fin 8 → Fin 8 → Bool) (hB : ∀ a b, B a b = true ↔ L b < L a) :
    sortedFrom B 0 = chosen L := by
  have hlen := length_sortPositions 8 B
  have hmem : sortedFrom B 0 ∈ (stableSort B (List.finRange 8)).head? := by
    unfold sortedFrom
    change _ ∈ (sortPositions 8 B).head?
    rw [List.head?_eq_getElem?, List.getElem?_eq_getElem (by omega)]
    rfl
  obtain ⟨-, hmax⟩ := head_sorted L B hB _ (List.pairwise_lt_finRange 8) _ hmem
  have htop : topOf L = Finset.univ.sup L := by
    unfold topOf
    rw [ofBits_bot]
    rfl
  have he : L (sortedFrom B 0) = topOf L := by
    rw [htop]
    exact le_antisymm (Finset.le_sup (Finset.mem_univ _)) (Finset.sup_le fun c _ => (hmax c (List.mem_finRange c)).1)
  refine firstTop_unique (chosen_first L) ⟨he, fun c hc => ?_⟩
  rw [← he]
  exact ne_of_lt ((hmax c (List.mem_finRange c)).2 hc)

/-- An index moved along the second axis. -/
theorem along_eq (q : Fin 50176) (k : Fin 8) : Shape.Idx.along (s := S50176x8) (ix2 q 0) 1 k = ix2 q k := by
  funext a
  unfold Shape.Idx.along
  match a with
  | ⟨0, _⟩ => rfl
  | ⟨1, _⟩ => rfl

variable (Y : FVec Ideal S50176x8 .f32) (q : Fin 50176)

/-- Where the first of the sorted values comes from. -/
theorem source_eq : sortedFrom (fun k k' => FloatOps.cmpfTotal .gt (Y (Shape.Idx.along (s := S50176x8) (ix2 q 0) 1 k))
    (Y (Shape.Idx.along (s := S50176x8) (ix2 q 0) 1 k')) == 1#1) (0 : Fin 8) = chosen fun e => Y (ix2 q e) := by
  refine sortedFrom_first _ _ fun a b => ?_
  rw [along_eq, along_eq, beq_iff_eq]
  show BitVec.ofBool (decide (Y (ix2 q b) < Y (ix2 q a))) = 1#1 ↔ _
  by_cases h : Y (ix2 q b) < Y (ix2 q a) <;> simp [h]

/-- Where the first selected entry of row `q` sits in the array sorted whole. -/
def origin : S50176x8.Idx := fun a =>
  ⟨0 + ((ix2 q 0 : S50176x1.Idx) (a.cast sliceFits_S50176x8_S50176x1.1.symm)).val,
    Nat.lt_of_lt_of_le (Nat.add_lt_add_left (Fin.isLt _) _) (sliceFits_S50176x8_S50176x1.2 a)⟩

/-- The first place of a row. -/
theorem origin_eq : origin q = ix2 q 0 := by
  funext a
  match a with
  | ⟨0, _⟩ => exact Fin.ext (Nat.zero_add _)
  | ⟨1, _⟩ => rfl

/-- The greatest of a row, as the reference's selection returns it. -/
theorem top_value : (Host.topK S50176x1 1 (FloatOps.cmpfTotal .gt) Y sliceFits_S50176x8_S50176x1).1 (ix2 q 0)
    = Y (ix2 q (chosen fun e => Y (ix2 q e))) := by
  rw [← source_eq]
  refine Eq.trans ?_ (congrArg Y (along_eq q _))
  rw [← origin_eq]
  rfl

/-- Its position. -/
theorem top_index : (Host.topK S50176x1 1 (FloatOps.cmpfTotal .gt) Y sliceFits_S50176x8_S50176x1).2 (ix2 q 0)
    = BitVec.ofNat 32 (chosen fun e => Y (ix2 q e)).val := by
  rw [← source_eq, ← origin_eq]
  rfl

end Cert.ReferenceIdeal.Hand

end
-- ==== Proof.RefRouter.lean ====
/- The reference's router at a pixel: the logits, the expert chosen, and its weight. -/
module

public import proofs.«01_k».proof.Proof.RefSort
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (convE chosen gateE ofBits_bot sitofp_zero)

/-- A pixel of the image, as a row of the flattened array. -/
def row (h w : Fin 224) : Fin 50176 := ⟨224 * h.val + w.val, by omega⟩

variable (X : FVec Ideal S1x96x224x224 .f32) (K : FVec Ideal S96x1x7x7 .f32) (b g bt : FVec Ideal S96 .f32) (G : FVec Ideal S8x96 .f32)

/-- The reference's layer norm of the pixel `(h, w)`. -/
def xlnR (h w : ℕ) (r : Fin 96) : EReal := normR (convE X K b h w) (g (ix1 r)) (bt (ix1 r)) r

/-- A row of the flattened array is a pixel's normed channels. -/
theorem flat_apply (h w : Fin 224) (k : Fin 96) :
    val_main_v367 (F := Ideal) X K b g bt (ix2 (row h w) k) = xlnR X K b g bt h w k := by
  have e := norm_apply X K b g bt h w k
  unfold xlnR
  rw [← e]
  unfold val_main_v367
  generalize val_main_v366 (F := Ideal) X K b g bt = Y
  exact shapeCast_apply Y shapeCasts_S1x224x224x96_S50176x96 (ix2 (row h w) k) (ix4 0 h w k)
    (by rewrite [Shape.rowMajor_val_four, Shape.rowMajor_val_two]; show ((0 * 224 + h.val) * 224 + w.val) * 96 + k.val = (224 * h.val + w.val) * 96 + k.val; omega)

/-- The reference's gates of a pixel. -/
theorem logits_apply (h w : Fin 224) (e : Fin 8) :
    val_main_v369 (F := Ideal) X K b g bt G (ix2 (row h w) e) = gateE G (xlnR X K b g bt h w) e := by
  have hx : ∀ k, val_main_v367 (F := Ideal) X K b g bt (ix2 (row h w) k) = xlnR X K b g bt h w k := flat_apply X K b g bt h w
  unfold gateE
  simp only [← hx]
  unfold val_main_v369
  generalize val_main_v367 (F := Ideal) X K b g bt = Y
  generalize row h w = q
  pointwise [val_main_v368]
  exact Finset.sum_congr rfl fun k _ => mul_comm _ _

/-- The expert the reference routes a pixel to. -/
def routed (h w : ℕ) : Fin 8 := chosen (gateE G (xlnR X K b g bt h w))

/-- The expert of the first greatest logit is the one routed to. -/
theorem routed_eq (h w : Fin 224) :
    (chosen fun e => val_main_v369 (F := Ideal) X K b g bt G (ix2 (row h w) e)) = routed X K b g bt G h w :=
  congrArg chosen (funext fun e => logits_apply X K b g bt G h w e)

/-- The value the router takes is the routed expert's gate. -/
theorem value_apply (h w : Fin 224) : val_main_values (F := Ideal) X K b g bt G (ix2 (row h w) 0)
    = gateE G (xlnR X K b g bt h w) (routed X K b g bt G h w) := by
  rw [← logits_apply, ← routed_eq]
  exact top_value _ _

/-- The index the router takes is the routed expert's number. -/
theorem index_apply (h w : Fin 224) : val_main_indices (F := Ideal) X K b g bt G (ix2 (row h w) 0)
    = BitVec.ofNat 32 (routed X K b g bt G h w).val := by
  rw [← routed_eq]
  exact top_index _ _

/-- The softmax of one value that is a real number is one. -/
theorem weight_apply (h w : Fin 224) {x : ℝ} (hx : gateE G (xlnR X K b g bt h w) (routed X K b g bt G h w) = (x : EReal)) :
    val_main_v378 (F := Ideal) X K b g bt G (ix2 (row h w) 0) = 1 := by
  have hv := (value_apply X K b g bt G h w).trans hx
  have h1 : val_main_v375 (F := Ideal) X K b g bt G (ix2 (row h w) 0) = 1 := by
    unfold val_main_v375 val_main_v374 val_main_v373 val_main_v372 val_main_v370
    generalize val_main_values (F := Ideal) X K b g bt G = V at *
    generalize row h w = q at *
    have hs : Ideal.exp ((x : EReal) - max (⊥ : EReal) (max (⊥ : EReal) (x : EReal))) = 1 := by
      rw [max_eq_right bot_le, max_eq_right bot_le, ← EReal.coe_sub, sub_self]
      exact (Ideal.exp_coe 0).trans (by simp)
    rw [← hs, ← hv, ← ofBits_bot]
    pointwise [val_main_v371, val_main_cst_5, val_main_cst_4]
    refine congrArg (fun t : EReal => Ideal.exp (V (ix2 q 0) - max (Ideal.ofBits FTy.f32 0xFF800000#32) t)) ?_
    rw [Finset.univ_unique, Finset.fold_singleton, max_comm]
    rfl
  unfold val_main_v378 val_main_v377 val_main_v376
  generalize val_main_v375 (F := Ideal) X K b g bt G = V at *
  generalize row h w = q at *
  have hs : Ideal.div 1 (0 + 1) = 1 := by
    rw [zero_add, ← EReal.coe_one, Ideal.div_coe one_ne_zero]
    simp
  rw [← hs, ← h1]
  pointwise [val_main_cst_6]
  rw [Fin.sum_univ_one]

end Cert.ReferenceIdeal.Hand

end
-- ==== Proof.RefExpert.lean ====
/- The reference's experts, their coefficients, and its result at a pixel. -/
module

public import proofs.«01_k».proof.Proof.RefRouter
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (convE chosen gateE dense geluK moeK pixelK ofBits_half sitofp_zero)

/-- One layer of the reference, over every row: expert `e`'s weights against the row, and its bias. -/
theorem layer_apply (e : Fin 8) (hw : S8x96x96.Slices ![e.val, 0, 0] S1x96x96) (hb : S8x96.Slices ![e.val, 0] S1x96)
    (Y : FVec Ideal S50176x96 .f32) (W : FVec Ideal S8x96x96 .f32) (B : FVec Ideal S8x96 .f32) (q : Fin 50176) (r : Fin 96) :
    addf (F := Ideal) (Host.dotGeneral dot_S50176x96_S96x96_S50176x96_1_0_0_1_n_n none Y
        (transpose S96x96 [1, 0] (shapeCast S96x96 (extractStridedSlice S1x96x96 ![e.val, 0, 0] W hw) shapeCasts_S1x96x96_S96x96) transposes_S96x96_S96x96_1_0))
        (broadcastInDim S50176x96 ![0, 1] bcast_S1x96_S50176x96_0_1
          (broadcastInDim S1x96 ![1] bcast_S96_S1x96_1 (shapeCast S96 (extractStridedSlice S1x96 ![e.val, 0] B hb) shapeCasts_S1x96_S96))) (ix2 q r)
      = dense W B (fun k => Y (ix2 q k)) e r := by
  pointwise [dense]
  exact congrArg (· + B (ix2 e r)) (Finset.sum_congr rfl fun k _ => mul_comm _ _)

/-- The reference's gelu, at an index. -/
theorem gelu_apply (Y : FVec Ideal S50176x96 .f32) (q : Fin 50176) (r : Fin 96) :
    mulf (F := Ideal) (mulf (broadcastInDim S50176x96 ![] bcast_S_S50176x96 (constant S_ .f32 0x3F000000#32)) Y)
        (addf (broadcastInDim S50176x96 ![] bcast_S_S50176x96 (constant S_ .f32 0x3F800000#32))
          (Host.erf (mulf Y (broadcastInDim S50176x96 ![] bcast_S_S50176x96 (id (Host.sqrt (constant S_ .f32 0x3F000000#32))))))) (ix2 q r)
      = geluK (Y (ix2 q r)) := by
  have hs : Ideal.sqrt (Ideal.ofBits .f32 0x3F000000#32) = ((Real.sqrt 2⁻¹ : ℝ) : EReal) := by
    rw [ofBits_half, Ideal.sqrt_coe, if_neg (by norm_num)]
  unfold geluK
  rw [← hs, ← Ideal.ofBits_one_f32]
  pointwise
  rfl

/-- Two experts' numbers are compared equal just when the experts are. -/
theorem same_expert (c e : Fin 8) :
    IntOp.cmpi .eq (BitVec.ofNat 32 c.val) (BitVec.ofNat 32 e.val) = BitVec.ofBool (decide (c = e)) := by
  revert c e
  decide

/-- An expert's coefficient: one where it is the expert chosen, else zero. -/
theorem coefficient_apply (c e : Fin 8) (V : FVec Ideal S50176x1 .f32) (I : IVec S50176x1 32) (q : Fin 50176) (r : Fin 96)
    (hv : V (ix2 q 0) = 1) (hi : I (ix2 q 0) = BitVec.ofNat 32 c.val) :
    broadcastInDim (α := EReal) S50176x96 ![0, 1] bcast_S50176x1_S50176x96_0_1 (broadcastInDim S50176x1 ![0] bcast_S50176_S50176x1_0
      (Host.reduceAdd (F := Ideal) (mulf V (uitofp .f32 (cmpi .eq I (broadcastInDim S50176x1 ![] bcast_S_S50176x1 (constantI S_ 32 (BitVec.ofNat 32 e.val))))))
        (constant S_ .f32 0x00000000#32) reducesTo_S50176x1_S50176_d1 h_S_)) (ix2 q r)
      = if c = e then (1 : EReal) else 0 := by
  pointwise
  rw [Fin.sum_univ_one, hv, hi, same_expert, one_mul]
  by_cases h : c = e
  · rw [if_pos h, decide_eq_true h]
    simp [FloatOps.uitofp]
  · rw [if_neg h, decide_eq_false h]
    simp [FloatOps.uitofp]

variable (X : FVec Ideal S1x96x224x224 .f32) (K : FVec Ideal S96x1x7x7 .f32) (b g bt : FVec Ideal S96 .f32) (G : FVec Ideal S8x96 .f32)
  (W1 : FVec Ideal S8x96x96 .f32) (B1 : FVec Ideal S8x96 .f32) (W2 : FVec Ideal S8x96x96 .f32) (B2 : FVec Ideal S8x96 .f32) (S : FVec Ideal S96x1x1 .f32)

/-- A coefficient times an expert's value: the value where the expert is the one chosen, else zero. -/
theorem share_eq {k y z : EReal} {c e : Fin 8} (hk : k = if c = e then (1 : EReal) else 0) (hy : y = z) :
    k * y = if c = e then z else 0 := by
  subst hk hy
  by_cases h : c = e
  · rw [if_pos h, if_pos h, one_mul]
  · rw [if_neg h, if_neg h, zero_mul]

/-- What expert 0 adds to a pixel's value. -/
theorem share0 (h w : Fin 224) (r : Fin 96) {x : ℝ} (hx : gateE G (xlnR X K b g bt h w) (routed X K b g bt G h w) = (x : EReal)) :
    val_main_v415 (F := Ideal) X K b g bt G W1 B1 W2 B2 (ix2 (row h w) r)
      = if routed X K b g bt G h w = 0 then moeK (xlnR X K b g bt h w) W1 B1 W2 B2 0 r else 0 := by
  rw [val_main_v415_apply]
  refine share_eq (coefficient_apply _ 0 _ _ _ r (weight_apply X K b g bt G h w hx) (index_apply X K b g bt G h w)) ?_
  refine (layer_apply 0 slices_S8x96x96_S1x96x96_0_0_0 slices_S8x96_S1x96_0_0 (val_main_v403 (F := Ideal) X K b g bt W1 B1) W2 B2 (row h w) r).trans ?_
  refine congrArg (fun v => dense W2 B2 v 0 r) (funext fun k => ?_)
  refine (gelu_apply (val_main_v393 (F := Ideal) X K b g bt W1 B1) (row h w) k).trans (congrArg geluK ?_)
  refine (layer_apply 0 slices_S8x96x96_S1x96x96_0_0_0 slices_S8x96_S1x96_0_0 (val_main_v367 (F := Ideal) X K b g bt) W1 B1 (row h w) k).trans ?_
  exact congrArg (fun v => dense W1 B1 v 0 k) (funext fun j => flat_apply X K b g bt h w j)

/-- What expert 1 adds to a pixel's value. -/
theorem share1 (h w : Fin 224) (r : Fin 96) {x : ℝ} (hx : gateE G (xlnR X K b g bt h w) (routed X K b g bt G h w) = (x : EReal)) :
    val_main_v452 (F := Ideal) X K b g bt G W1 B1 W2 B2 (ix2 (row h w) r)
      = if routed X K b g bt G h w = 1 then moeK (xlnR X K b g bt h w) W1 B1 W2 B2 1 r else 0 := by
  rw [val_main_v452_apply]
  refine share_eq (coefficient_apply _ 1 _ _ _ r (weight_apply X K b g bt G h w hx) (index_apply X K b g bt G h w)) ?_
  refine (layer_apply 1 slices_S8x96x96_S1x96x96_1_0_0 slices_S8x96_S1x96_1_0 (val_main_v440 (F := Ideal) X K b g bt W1 B1) W2 B2 (row h w) r).trans ?_
  refine congrArg (fun v => dense W2 B2 v 1 r) (funext fun k => ?_)
  refine (gelu_apply (val_main_v430 (F := Ideal) X K b g bt W1 B1) (row h w) k).trans (congrArg geluK ?_)
  refine (layer_apply 1 slices_S8x96x96_S1x96x96_1_0_0 slices_S8x96_S1x96_1_0 (val_main_v367 (F := Ideal) X K b g bt) W1 B1 (row h w) k).trans ?_
  exact congrArg (fun v => dense W1 B1 v 1 k) (funext fun j => flat_apply X K b g bt h w j)

/-- What expert 2 adds to a pixel's value. -/
theorem share2 (h w : Fin 224) (r : Fin 96) {x : ℝ} (hx : gateE G (xlnR X K b g bt h w) (routed X K b g bt G h w) = (x : EReal)) :
    val_main_v489 (F := Ideal) X K b g bt G W1 B1 W2 B2 (ix2 (row h w) r)
      = if routed X K b g bt G h w = 2 then moeK (xlnR X K b g bt h w) W1 B1 W2 B2 2 r else 0 := by
  rw [val_main_v489_apply]
  refine share_eq (coefficient_apply _ 2 _ _ _ r (weight_apply X K b g bt G h w hx) (index_apply X K b g bt G h w)) ?_
  refine (layer_apply 2 slices_S8x96x96_S1x96x96_2_0_0 slices_S8x96_S1x96_2_0 (val_main_v477 (F := Ideal) X K b g bt W1 B1) W2 B2 (row h w) r).trans ?_
  refine congrArg (fun v => dense W2 B2 v 2 r) (funext fun k => ?_)
  refine (gelu_apply (val_main_v467 (F := Ideal) X K b g bt W1 B1) (row h w) k).trans (congrArg geluK ?_)
  refine (layer_apply 2 slices_S8x96x96_S1x96x96_2_0_0 slices_S8x96_S1x96_2_0 (val_main_v367 (F := Ideal) X K b g bt) W1 B1 (row h w) k).trans ?_
  exact congrArg (fun v => dense W1 B1 v 2 k) (funext fun j => flat_apply X K b g bt h w j)

/-- What expert 3 adds to a pixel's value. -/
theorem share3 (h w : Fin 224) (r : Fin 96) {x : ℝ} (hx : gateE G (xlnR X K b g bt h w) (routed X K b g bt G h w) = (x : EReal)) :
    val_main_v526 (F := Ideal) X K b g bt G W1 B1 W2 B2 (ix2 (row h w) r)
      = if routed X K b g bt G h w = 3 then moeK (xlnR X K b g bt h w) W1 B1 W2 B2 3 r else 0 := by
  rw [val_main_v526_apply]
  refine share_eq (coefficient_apply _ 3 _ _ _ r (weight_apply X K b g bt G h w hx) (index_apply X K b g bt G h w)) ?_
  refine (layer_apply 3 slices_S8x96x96_S1x96x96_3_0_0 slices_S8x96_S1x96_3_0 (val_main_v514 (F := Ideal) X K b g bt W1 B1) W2 B2 (row h w) r).trans ?_
  refine congrArg (fun v => dense W2 B2 v 3 r) (funext fun k => ?_)
  refine (gelu_apply (val_main_v504 (F := Ideal) X K b g bt W1 B1) (row h w) k).trans (congrArg geluK ?_)
  refine (layer_apply 3 slices_S8x96x96_S1x96x96_3_0_0 slices_S8x96_S1x96_3_0 (val_main_v367 (F := Ideal) X K b g bt) W1 B1 (row h w) k).trans ?_
  exact congrArg (fun v => dense W1 B1 v 3 k) (funext fun j => flat_apply X K b g bt h w j)

/-- What expert 4 adds to a pixel's value. -/
theorem share4 (h w : Fin 224) (r : Fin 96) {x : ℝ} (hx : gateE G (xlnR X K b g bt h w) (routed X K b g bt G h w) = (x : EReal)) :
    val_main_v563 (F := Ideal) X K b g bt G W1 B1 W2 B2 (ix2 (row h w) r)
      = if routed X K b g bt G h w = 4 then moeK (xlnR X K b g bt h w) W1 B1 W2 B2 4 r else 0 := by
  rw [val_main_v563_apply]
  refine share_eq (coefficient_apply _ 4 _ _ _ r (weight_apply X K b g bt G h w hx) (index_apply X K b g bt G h w)) ?_
  refine (layer_apply 4 slices_S8x96x96_S1x96x96_4_0_0 slices_S8x96_S1x96_4_0 (val_main_v551 (F := Ideal) X K b g bt W1 B1) W2 B2 (row h w) r).trans ?_
  refine congrArg (fun v => dense W2 B2 v 4 r) (funext fun k => ?_)
  refine (gelu_apply (val_main_v541 (F := Ideal) X K b g bt W1 B1) (row h w) k).trans (congrArg geluK ?_)
  refine (layer_apply 4 slices_S8x96x96_S1x96x96_4_0_0 slices_S8x96_S1x96_4_0 (val_main_v367 (F := Ideal) X K b g bt) W1 B1 (row h w) k).trans ?_
  exact congrArg (fun v => dense W1 B1 v 4 k) (funext fun j => flat_apply X K b g bt h w j)

/-- What expert 5 adds to a pixel's value. -/
theorem share5 (h w : Fin 224) (r : Fin 96) {x : ℝ} (hx : gateE G (xlnR X K b g bt h w) (routed X K b g bt G h w) = (x : EReal)) :
    val_main_v600 (F := Ideal) X K b g bt G W1 B1 W2 B2 (ix2 (row h w) r)
      = if routed X K b g bt G h w = 5 then moeK (xlnR X K b g bt h w) W1 B1 W2 B2 5 r else 0 := by
  rw [val_main_v600_apply]
  refine share_eq (coefficient_apply _ 5 _ _ _ r (weight_apply X K b g bt G h w hx) (index_apply X K b g bt G h w)) ?_
  refine (layer_apply 5 slices_S8x96x96_S1x96x96_5_0_0 slices_S8x96_S1x96_5_0 (val_main_v588 (F := Ideal) X K b g bt W1 B1) W2 B2 (row h w) r).trans ?_
  refine congrArg (fun v => dense W2 B2 v 5 r) (funext fun k => ?_)
  refine (gelu_apply (val_main_v578 (F := Ideal) X K b g bt W1 B1) (row h w) k).trans (congrArg geluK ?_)
  refine (layer_apply 5 slices_S8x96x96_S1x96x96_5_0_0 slices_S8x96_S1x96_5_0 (val_main_v367 (F := Ideal) X K b g bt) W1 B1 (row h w) k).trans ?_
  exact congrArg (fun v => dense W1 B1 v 5 k) (funext fun j => flat_apply X K b g bt h w j)

/-- What expert 6 adds to a pixel's value. -/
theorem share6 (h w : Fin 224) (r : Fin 96) {x : ℝ} (hx : gateE G (xlnR X K b g bt h w) (routed X K b g bt G h w) = (x : EReal)) :
    val_main_v637 (F := Ideal) X K b g bt G W1 B1 W2 B2 (ix2 (row h w) r)
      = if routed X K b g bt G h w = 6 then moeK (xlnR X K b g bt h w) W1 B1 W2 B2 6 r else 0 := by
  rw [val_main_v637_apply]
  refine share_eq (coefficient_apply _ 6 _ _ _ r (weight_apply X K b g bt G h w hx) (index_apply X K b g bt G h w)) ?_
  refine (layer_apply 6 slices_S8x96x96_S1x96x96_6_0_0 slices_S8x96_S1x96_6_0 (val_main_v625 (F := Ideal) X K b g bt W1 B1) W2 B2 (row h w) r).trans ?_
  refine congrArg (fun v => dense W2 B2 v 6 r) (funext fun k => ?_)
  refine (gelu_apply (val_main_v615 (F := Ideal) X K b g bt W1 B1) (row h w) k).trans (congrArg geluK ?_)
  refine (layer_apply 6 slices_S8x96x96_S1x96x96_6_0_0 slices_S8x96_S1x96_6_0 (val_main_v367 (F := Ideal) X K b g bt) W1 B1 (row h w) k).trans ?_
  exact congrArg (fun v => dense W1 B1 v 6 k) (funext fun j => flat_apply X K b g bt h w j)

/-- What expert 7 adds to a pixel's value. -/
theorem share7 (h w : Fin 224) (r : Fin 96) {x : ℝ} (hx : gateE G (xlnR X K b g bt h w) (routed X K b g bt G h w) = (x : EReal)) :
    val_main_v674 (F := Ideal) X K b g bt G W1 B1 W2 B2 (ix2 (row h w) r)
      = if routed X K b g bt G h w = 7 then moeK (xlnR X K b g bt h w) W1 B1 W2 B2 7 r else 0 := by
  rw [val_main_v674_apply]
  refine share_eq (coefficient_apply _ 7 _ _ _ r (weight_apply X K b g bt G h w hx) (index_apply X K b g bt G h w)) ?_
  refine (layer_apply 7 slices_S8x96x96_S1x96x96_7_0_0 slices_S8x96_S1x96_7_0 (val_main_v662 (F := Ideal) X K b g bt W1 B1) W2 B2 (row h w) r).trans ?_
  refine congrArg (fun v => dense W2 B2 v 7 r) (funext fun k => ?_)
  refine (gelu_apply (val_main_v652 (F := Ideal) X K b g bt W1 B1) (row h w) k).trans (congrArg geluK ?_)
  refine (layer_apply 7 slices_S8x96x96_S1x96x96_7_0_0 slices_S8x96_S1x96_7_0 (val_main_v367 (F := Ideal) X K b g bt) W1 B1 (row h w) k).trans ?_
  exact congrArg (fun v => dense W1 B1 v 7 k) (funext fun j => flat_apply X K b g bt h w j)

/-- The reference's mixture at a pixel: the chosen expert's value. -/
theorem mixture_apply (h w : Fin 224) (r : Fin 96) {x : ℝ} (hx : gateE G (xlnR X K b g bt h w) (routed X K b g bt G h w) = (x : EReal)) :
    val_main_v675 (F := Ideal) X K b g bt G W1 B1 W2 B2 (ix2 (row h w) r)
      = moeK (xlnR X K b g bt h w) W1 B1 W2 B2 (routed X K b g bt G h w) r := by
  have hz : val_main_v379 (F := Ideal) (ix2 (row h w) r) = 0 := by
    pointwise [val_main_v379, val_main_cst_7]
  rw [val_main_v675_apply, val_main_v638_apply, val_main_v601_apply, val_main_v564_apply, val_main_v527_apply, val_main_v490_apply, val_main_v453_apply, val_main_v416_apply, hz, share0 X K b g bt G W1 B1 W2 B2 h w r hx, share1 X K b g bt G W1 B1 W2 B2 h w r hx, share2 X K b g bt G W1 B1 W2 B2 h w r hx, share3 X K b g bt G W1 B1 W2 B2 h w r hx, share4 X K b g bt G W1 B1 W2 B2 h w r hx, share5 X K b g bt G W1 B1 W2 B2 h w r hx, share6 X K b g bt G W1 B1 W2 B2 h w r hx, share7 X K b g bt G W1 B1 W2 B2 h w r hx]
  refine Eq.trans ?_ (Eq.trans (Fin.sum_univ_eight fun e : Fin 8 =>
    if routed X K b g bt G h w = e then moeK (xlnR X K b g bt h w) W1 B1 W2 B2 e r else 0).symm ?_)
  · exact congrArg (fun q : EReal => q + _ + _ + _ + _ + _ + _ + _) (zero_add _)
  · exact (Finset.sum_ite_eq Finset.univ _ _).trans (if_pos (Finset.mem_univ _))

/-- The reference's result at a pixel: the image, and the chosen expert's value scaled. -/
theorem reference_value (h w : Fin 224) (r : Fin 96) {x : ℝ} (hx : gateE G (xlnR X K b g bt h w) (routed X K b g bt G h w) = (x : EReal)) :
    val_main_v681 (F := Ideal) X K b g bt G W1 B1 W2 B2 S (ix4 0 r h w)
      = pixelK X (xlnR X K b g bt h w) W1 B1 W2 B2 S (routed X K b g bt G h w) r h w := by
  have hm : val_main_v677 (F := Ideal) X K b g bt G W1 B1 W2 B2 (ix4 0 r h w)
      = moeK (xlnR X K b g bt h w) W1 B1 W2 B2 (routed X K b g bt G h w) r := by
    refine Eq.trans ?_ (mixture_apply X K b g bt G W1 B1 W2 B2 h w r hx)
    refine Eq.trans (b := val_main_v676 (F := Ideal) X K b g bt G W1 B1 W2 B2 (ix4 0 h w r)) ?_ ?_
    · unfold val_main_v677
      generalize val_main_v676 (F := Ideal) X K b g bt G W1 B1 W2 B2 = Y
      pointwise
    · unfold val_main_v676
      generalize val_main_v675 (F := Ideal) X K b g bt G W1 B1 W2 B2 = Y
      exact shapeCast_apply Y shapeCasts_S50176x96_S1x224x224x96 (ix4 0 h w r) (ix2 (row h w) r)
        (by rewrite [Shape.rowMajor_val_four, Shape.rowMajor_val_two]; show (224 * h.val + w.val) * 96 + r.val = ((0 * 224 + h.val) * 224 + w.val) * 96 + r.val; omega)
  have hs : val_main_v679 (F := Ideal) S (ix4 0 r h w) = S (ix3 r 0 0) := by
    pointwise [val_main_v679, val_main_v678]
  rw [val_main_v681_apply, val_main_v680_apply, hm, hs]
  rfl

end Cert.ReferenceIdeal.Hand

end
-- ==== Proof.RealNorm.lean ====
/- Over the reals the two forms of the layer norm agree, and convolution, norm and gates stay real. -/
module

public import proofs.«01_k».proof.Proof.RefNorm
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (convE padAt normK xlnK gateE ofBits_96 ofBits_eps)

/-- The value is a real number. -/
def IsReal (v : EReal) : Prop := ∃ x : ℝ, v = (x : EReal)

/-- A sum of reals is real. -/
theorem isReal_add {u v : EReal} (hu : IsReal u) (hv : IsReal v) : IsReal (u + v) := by
  obtain ⟨x, rfl⟩ := hu
  obtain ⟨y, rfl⟩ := hv
  exact ⟨x + y, (EReal.coe_add x y).symm⟩

/-- A product of reals is real. -/
theorem isReal_mul {u v : EReal} (hu : IsReal u) (hv : IsReal v) : IsReal (u * v) := by
  obtain ⟨x, rfl⟩ := hu
  obtain ⟨y, rfl⟩ := hv
  exact ⟨x * y, (EReal.coe_mul x y).symm⟩

/-- The sum of real numbers, taken among the extended reals, is their real sum. -/
theorem sum_real {n : ℕ} (f : Fin n → ℝ) : (∑ k, (f k : EReal)) = ((∑ k, f k : ℝ) : EReal) := by
  induction n with
  | zero => rw [Fin.sum_univ_zero, Fin.sum_univ_zero, EReal.coe_zero]
  | succ n ih => rw [Fin.sum_univ_castSucc, Fin.sum_univ_castSucc, ih, EReal.coe_add]

/-- A finite sum of reals is real. -/
theorem isReal_sum {n : ℕ} {f : Fin n → EReal} (h : ∀ k, IsReal (f k)) : IsReal (∑ k, f k) := by
  choose x hx using h
  exact ⟨∑ k, x k, (Finset.sum_congr rfl fun k _ => hx k).trans (sum_real x)⟩

/-- The mean of the squares less the square of the mean is the mean of the squared deviations. -/
theorem variance_eq (c : Fin 96 → ℝ) :
    (∑ k, c k * c k) * (1 / 96) - (∑ k, c k) * (1 / 96) * ((∑ k, c k) * (1 / 96))
      = (∑ k, (c k - (∑ j, c j) * (1 / 96)) * (c k - (∑ j, c j) * (1 / 96))) * (1 / 96) := by
  generalize hs : (∑ j, c j) = s
  have e : ∀ k, (c k - s * (1 / 96)) * (c k - s * (1 / 96)) = c k * c k - 2 * (s * (1 / 96)) * c k + s * (1 / 96) * (s * (1 / 96)) := fun k => by ring
  simp only [e, Finset.sum_add_distrib, Finset.sum_sub_distrib, ← Finset.mul_sum, hs, Finset.sum_const, Finset.card_univ, Fintype.card_fin, nsmul_eq_mul]
  push_cast
  ring

/-- The mean of real channels. -/
theorem mean_real (c : Fin 96 → ℝ) : meanR (fun k => (c k : EReal)) = (((∑ k, c k) * (1 / 96) : ℝ) : EReal) := by
  unfold meanR
  rw [ofBits_96, Ideal.div_coe (by norm_num), sum_real, EReal.coe_mul]

/-- The variance of real channels. -/
theorem var_real (c : Fin 96 → ℝ) : varR (fun k => (c k : EReal))
    = (((∑ k, (c k - (∑ j, c j) * (1 / 96)) * (c k - (∑ j, c j) * (1 / 96))) * (1 / 96) : ℝ) : EReal) := by
  unfold varR
  rw [mean_real, ofBits_96, Ideal.div_coe (by norm_num)]
  simp only [← EReal.coe_sub, ← EReal.coe_mul]
  rw [sum_real, EReal.coe_mul]

/-- The variance of real channels is not negative. -/
theorem var_nonneg (c : Fin 96 → ℝ) : 0 ≤ (∑ k, (c k - (∑ j, c j) * (1 / 96)) * (c k - (∑ j, c j) * (1 / 96))) * (1 / 96) :=
  mul_nonneg (Finset.sum_nonneg fun k _ => mul_self_nonneg _) (by norm_num)

/-- The kernel's variance of real channels is the reference's. -/
theorem kernel_var (c : Fin 96 → ℝ) :
    Ideal.div (∑ k, (c k : EReal) * (c k : EReal)) (Ideal.ofBits .f32 0x42C00000#32)
        - Ideal.div (∑ k, (c k : EReal)) (Ideal.ofBits .f32 0x42C00000#32) * Ideal.div (∑ k, (c k : EReal)) (Ideal.ofBits .f32 0x42C00000#32)
      = varR (fun k => (c k : EReal)) := by
  rw [var_real, ← variance_eq, ofBits_96, Ideal.div_coe (by norm_num), Ideal.div_coe (by norm_num)]
  simp only [← EReal.coe_mul]
  rw [sum_real, sum_real]
  simp only [← EReal.coe_mul, ← EReal.coe_sub]

/-- On real channels the kernel's layer norm and the reference's agree. -/
theorem norm_eq {cv : Fin 96 → EReal} (hc : ∀ k, IsReal (cv k)) (g b : EReal) (r : Fin 96) : normK cv g b r = normR cv g b r := by
  choose c hc using hc
  obtain rfl : cv = fun k => (c k : EReal) := funext hc
  obtain ⟨q, hq, he⟩ := ofBits_eps
  unfold normK normR
  rw [kernel_var]
  have hpos := add_pos_of_nonneg_of_pos (var_nonneg c) hq
  rw [var_real, he, ← EReal.coe_add, Ideal.rsqrt_coe, Ideal.sqrt_coe, if_neg (not_lt.mpr hpos.le), if_neg hpos.ne', if_neg (not_lt.mpr hpos.le),
    Ideal.div_coe (Real.sqrt_pos.mpr hpos).ne', ← one_div (Real.sqrt _)]
  rfl

/-- The reference's layer norm of real channels, with a real gain and shift, is real. -/
theorem norm_real {cv : Fin 96 → EReal} (hc : ∀ k, IsReal (cv k)) {g b : EReal} (hg : IsReal g) (hb : IsReal b) (r : Fin 96) : IsReal (normR cv g b r) := by
  choose c hc using hc
  obtain rfl : cv = fun k => (c k : EReal) := funext hc
  obtain ⟨q, hq, he⟩ := ofBits_eps
  unfold normR
  have hpos := add_pos_of_nonneg_of_pos (var_nonneg c) hq
  rw [var_real, mean_real, he, ← EReal.coe_add, Ideal.sqrt_coe, if_neg (not_lt.mpr hpos.le), Ideal.div_coe (Real.sqrt_pos.mpr hpos).ne', ← EReal.coe_sub]
  exact isReal_add (isReal_mul (isReal_mul ⟨_, rfl⟩ ⟨_, rfl⟩) hg) hb

variable {X : FVec Ideal S1x96x224x224 .f32} {K : FVec Ideal S96x1x7x7 .f32} {b g bt : FVec Ideal S96 .f32} {G : FVec Ideal S8x96 .f32}

/-- The convolution of a real image by real weights, with a real bias, is real. -/
theorem conv_real (hX : ∀ i, IsReal (X i)) (hK : ∀ i, IsReal (K i)) (hb : ∀ i, IsReal (b i)) (h w : ℕ) (r : Fin 96) : IsReal (convE X K b h w r) := by
  unfold convE
  refine isReal_add (isReal_sum fun d => isReal_sum fun a => isReal_mul ?_ (hK _)) (hb _)
  unfold padAt
  by_cases hp : (3 ≤ h + a.val ∧ h + a.val - 3 < 224) ∧ 3 ≤ w + d.val ∧ w + d.val - 3 < 224
  · rw [dif_pos hp]
    exact hX _
  · rw [dif_neg hp]
    exact ⟨0, EReal.coe_zero.symm⟩

/-- Gates of real values are real. -/
theorem gate_real (hG : ∀ i, IsReal (G i)) {v : Fin 96 → EReal} (hv : ∀ k, IsReal (v k)) (e : Fin 8) : IsReal (gateE G v e) :=
  isReal_sum fun k => isReal_mul (hG _) (hv k)

end Cert.ReferenceIdeal.Hand

end
-- ==== Proof.Equation.lean ====
/- The kernel's value at a pixel is the reference's, where what the router reads is real. -/
module

public import proofs.«01_k».proof.Proof.RefExpert
public import proofs.«01_k».proof.Proof.RealNorm
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (convE xlnK gateE chosen pixelK resultK ofBits_top)

/-- A value whose magnitude is below infinity is a real number. -/
theorem real_of_below {v : EReal} (h : Ideal.cmp .olt (max v (-v)) (Ideal.ofBits .f32 0x7F800000#32) = 1#1) : IsReal v := by
  rw [ofBits_top] at h
  induction v using EReal.rec with
  | coe x => exact ⟨x, rfl⟩
  | bot => simp [Ideal.cmp] at h
  | top => simp [Ideal.cmp] at h

/-- An array whose magnitudes are all below infinity holds real numbers. -/
theorem real_of_all_below {s : Shape} (hb : S_.BroadcastsInDim s (![] : Fin 0 → Fin s.rank)) (Y : FVec Ideal s .f32)
    (h : cmpf .olt (Host.absf Y) (broadcastInDim s ![] hb (constant S_ .f32 0x7F800000#32)) = (fun _ => 1#1)) (i : s.Idx) : IsReal (Y i) :=
  real_of_below (congrFun h i)

variable {X : FVec Ideal S1x96x224x224 .f32} {K : FVec Ideal S96x1x7x7 .f32} {b g bt : FVec Ideal S96 .f32} {G : FVec Ideal S8x96 .f32}

/-- Where what the router reads is real, the kernel's value at a pixel is the reference's. -/
theorem value_eq (hX : ∀ i, IsReal (X i)) (hK : ∀ i, IsReal (K i)) (hb : ∀ i, IsReal (b i)) (hg : ∀ i, IsReal (g i)) (ht : ∀ i, IsReal (bt i)) (hG : ∀ i, IsReal (G i))
    (W1 : FVec Ideal S8x96x96 .f32) (B1 : FVec Ideal S8x96 .f32) (W2 : FVec Ideal S8x96x96 .f32) (B2 : FVec Ideal S8x96 .f32) (S : FVec Ideal S96x1x1 .f32)
    (r : Fin 96) (h w : Fin 224) :
    resultK X K b g bt G W1 B1 W2 B2 S r h w = val_main_v681 (F := Ideal) X K b g bt G W1 B1 W2 B2 S (ix4 0 r h w) := by
  have hc : ∀ k, IsReal (convE X K b h w k) := conv_real hX hK hb h w
  have hn : xlnK X K b g bt h w = xlnR X K b g bt h w := funext fun k => norm_eq hc _ _ k
  have hv : ∀ k, IsReal (xlnR X K b g bt h w k) := fun k => norm_real hc (hg _) (ht _) k
  obtain ⟨x, hx⟩ := gate_real hG hv (routed X K b g bt G h w)
  rw [reference_value X K b g bt G W1 B1 W2 B2 S h w r hx]
  unfold resultK
  rw [hn]
  rfl

end Cert.ReferenceIdeal.Hand

end
-- ==== Proof.Algebraic.lean ====
/- The value claim: over the extended reals the kernel and the reference, run on the same arguments, leave the same
   result, where the arrays the router's logits are made of hold real numbers. -/
module

public import proofs.«01_k».proof.Proof.Frames
public import proofs.«01_k».proof.Proof.Equation
public import Idealize.ShloMosaic.Lib.Claim

@[expose] public section

set_option maxRecDepth 16384

noncomputable section

namespace Cert.Proof

open Cert.KernelIdeal Cert.KernelIdeal.Gen Cert.KernelIdeal.Hand
open Idealize.ShloMosaic Idealize.ShloMosaic.TcCoe Idealize.SL.Sem
open Cert.ReferenceIdeal.Hand (IsReal real_of_all_below value_eq)

variable (m : (ℓ : Loc nD τ sig) → Buf (Elt Ideal) ℓ)

/-- The reference's result as a function of the kernel's arguments. -/
def resultR (c : Dev nD) : FVec Ideal S1x96x224x224 .f32 :=
  Cert.ReferenceIdeal.Read.val_main_v681 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The array the kernel leaves is the reference's result. -/
theorem kernel_result (hpre : Cert.Pre_KernelIdeal_finite_into_the_router (hPre_finite_into_the_router := preFacts) m) (c : Dev nD)
    (A : (w : Fin cfg0.W) → Buf (Elt Ideal) ((cfg0.spec w).arr.view.loc (c.tc : Thread nD τ))) (hA : ∀ w, (rdat m c).ArrAt w cfg0.N (A w)) :
    StableHlo.after [hostOps1].flatten (Pipeline.withArrays spec0 c (V0 m c) A) (Proc.devRef .tc main_v25) = resultR m c := by
  obtain ⟨hX, hK, hb, hg, ht, hG⟩ := hpre c
  funext i
  idx_vars i
  obtain rfl : i0 = 0 := Subsingleton.elim _ _
  refine (result_value m c A hA i1 i2 i3).trans ?_
  exact value_eq (real_of_all_below _ _ hX) (real_of_all_below _ _ hK) (real_of_all_below _ _ hb) (real_of_all_below _ _ hg)
    (real_of_all_below _ _ ht) (real_of_all_below _ _ hG) _ _ _ _ _ i1 i2 i3

/-- The kernel and the reference leave equal results. -/
theorem algebraic : Cert.algebraic_KernelIdeal_ReferenceIdeal_pre_finite_into_the_router (hPre_finite_into_the_router := preFacts) := by
  intro m g m' g' hpre hagree
  refine ⟨resultR m, ?_, ?_⟩
  · refine (θ_run _ _ _).mono ?_ (Cert.KernelIdeal.Hand.run_main m g)
    rintro r ⟨h, _⟩ c
    obtain ⟨hk, A, hA, hv⟩ := h c
    exact ⟨hv.trans (kernel_result m hpre c A hA), hk⟩
  · refine (θ_run _ _ _).mono ?_ (Cert.ReferenceIdeal.Value.run m' g')
    intro r h c
    refine ⟨(h c).1.trans ((Cert.ReferenceIdeal.Read.val_main_v681_eq _).trans ?_), (h c).2⟩
    obtain ⟨e0, e1, e2, e3, e4, e5, e6, e7, e8, e9, e10⟩ := hagree c
    unfold resultR
    rw [← e0, ← e1, ← e2, ← e3, ← e4, ← e5, ← e6, ← e7, ← e8, ← e9, ← e10]

end Cert.Proof

end
-- ==== Proof.lean ====
/- The certificate: the kernel as printed and idealized, and the reference, each run and leave their arguments as they
   were; the named constant stands for the rounded one; and the idealized kernel and the reference leave equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.IdealRun
public import proofs.«01_k».proof.Proof.BitsRun
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, preFacts,
  frame_kernel, frame_ideal, frame_ideal_pre, frame_reference, frame_reference_pre, named, algebraic⟩

end Cert.Proof

end
